-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S32768x256 : Shape := ⟨2, ![32768, 256]⟩
abbrev S32768 : Shape := ⟨1, ![32768]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S32767 : Shape := ⟨1, ![32767]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_0 : S32768.Slices ![0] S32767
  slices_S32768_S32767_1 : S32768.Slices ![1] S32767
  reducesTo_S32767_S_d0 : S32767.ReducesTo [0] S_

variable [Facts]

def fn {F : FTy → Type} [FloatOps F] (main_arg0 : FVec F S32768x256 .f32) (main_arg1 : IVec S32768 32) (main_arg2 : FVec F S256x256 .f32) (main_arg3 : FVec F S256 .f32) (main_arg4 : FVec F S256 .f32) (main_arg5 : FVec F S128x256 .f32) (main_arg6 : FVec F S128 .f32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 1 := constantI S_ 1 1#1
  let main_v2 : IVec S_ 1 := (fun x v => Host.reduce IntOp.andi x v reducesTo_S32768_S_d0 h_S_) main_v1 main_c_0
  let main_c_1 : IVec S_ 32 := constantI S_ 32 16#32
  let main_v3 : IVec S32768 32 := broadcastInDim S32768 ![] bcast_S_S32768 main_c_1
  let main_v4 : IVec S32768 1 := cmpi .slt main_arg1 main_v3
  let main_c_2 : IVec S_ 1 := constantI S_ 1 1#1
  let main_v5 : IVec S_ 1 := (fun x v => Host.reduce IntOp.andi x v reducesTo_S32768_S_d0 h_S_) main_v4 main_c_2
  let main_v6 : IVec S_ 1 := andi main_v2 main_v5
  let main_v7 : IVec S32767 32 := (extractStridedSlice S32767 ![0] · slices_S32768_S32767_0) main_arg1
  let main_v8 : IVec S32767 32 := (extractStridedSlice S32767 ![1] · slices_S32768_S32767_1) main_arg1
  let main_v9 : IVec S32767 1 := cmpi .sle main_v7 main_v8
  let main_c_3 : IVec S_ 1 := constantI S_ 1 1#1
  let main_v10 : IVec S_ 1 := (fun x v => Host.reduce IntOp.andi x v reducesTo_S32767_S_d0 h_S_) main_v9 main_c_3
  let main_v11 : IVec S_ 1 := andi main_v6 main_v10
  main_v11
-- ==== Kernel.lean ====
abbrev S32768x256 : Shape := ⟨2, ![32768, 256]⟩
abbrev S32768 : Shape := ⟨1, ![32768]⟩
abbrev S256x256 : Shape := ⟨2, ![256, 256]⟩
abbrev S256 : Shape := ⟨1, ![256]⟩
abbrev S128x256 : Shape := ⟨2, ![128, 256]⟩
abbrev S128 : Shape := ⟨1, ![128]⟩
abbrev S8388608 : Shape := ⟨1, ![8388608]⟩
abbrev S32x4096 : Shape := ⟨2, ![32, 4096]⟩
abbrev S65536 : Shape := ⟨1, ![65536]⟩
abbrev S1024 : Shape := ⟨1, ![1024]⟩
abbrev S4096 : Shape := ⟨1, ![4096]⟩
abbrev S_ : Shape := ⟨0, ![]⟩
abbrev S16 : Shape := ⟨1, ![16]⟩
abbrev S1 : Shape := ⟨1, ![1]⟩
abbrev S1x4096 : Shape := ⟨2, ![1, 4096]⟩
abbrev S32x16x256 : Shape := ⟨3, ![32, 16, 256]⟩
abbrev S1x256 : Shape := ⟨2, ![1, 256]⟩
abbrev S1x128 : Shape := ⟨2, ![1, 128]⟩
abbrev S16x256 : Shape := ⟨2, ![16, 256]⟩
abbrev S16x128 : Shape := ⟨2, ![16, 128]⟩

abbrev nBuf : Table → Nat
  | .hbm => 15
  | .local .tc .vmem => 8
  | .local .scVector .vmem => 3
  | _ => 0

abbrev bufTy : (tb : Table) → Fin (nBuf tb) → BufTy
  | .hbm, ⟨0, _⟩ => ⟨S32768x256, .f32⟩
  | .hbm, ⟨1, _⟩ => ⟨S32768, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S8388608, .f32⟩
  | .hbm, ⟨8, _⟩ => ⟨S32x4096, .f32⟩
  | .hbm, ⟨9, _⟩ => ⟨S32x16x256, .f32⟩
  | .hbm, ⟨10, _⟩ => ⟨S1x256, .f32⟩
  | .hbm, ⟨11, _⟩ => ⟨S1x256, .f32⟩
  | .hbm, ⟨12, _⟩ => ⟨S1x128, .f32⟩
  | .hbm, ⟨13, _⟩ => ⟨S16x256, .f32⟩
  | .hbm, ⟨14, _⟩ => ⟨S16x128, .f32⟩
  | .local .tc .vmem, ⟨0, _⟩ => ⟨S32x16x256, .f32⟩
  | .local .tc .vmem, ⟨1, _⟩ => ⟨S256x256, .f32⟩
  | .local .tc .vmem, ⟨2, _⟩ => ⟨S1x256, .f32⟩
  | .local .tc .vmem, ⟨3, _⟩ => ⟨S1x256, .f32⟩
  | .local .tc .vmem, ⟨4, _⟩ => ⟨S128x256, .f32⟩
  | .local .tc .vmem, ⟨5, _⟩ => ⟨S1x128, .f32⟩
  | .local .tc .vmem, ⟨6, _⟩ => ⟨S16x256, .f32⟩
  | .local .tc .vmem, ⟨7, _⟩ => ⟨S16x128, .f32⟩
  | .local .scVector .vmem, ⟨0, _⟩ => ⟨S65536, .f32⟩
  | .local .scVector .vmem, ⟨1, _⟩ => ⟨S1024, .i32⟩
  | .local .scVector .vmem, ⟨2, _⟩ => ⟨S4096, .f32⟩
  | _, _ => ⟨S32768x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v0_scv : Ref sig .scVector := ⟨.hbm, 7, rfl⟩
abbrev main_arg1_scv : Ref sig .scVector := ⟨.hbm, 1, rfl⟩
abbrev main_v1_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  ![v2.toNat]
@[reducible] def k0_t1_loop : Scf.Loop 32 :=
  let c0_i32_0 : BitVec 32 := 0#32
  let c256_i32 : BitVec 32 := 256#32
  let v3 : BitVec 32 := Scalar.addi c0_i32_0 c256_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32_12 : BitVec 32 := 16#32
  let v18 : BitVec 32 := Scalar.muli arg10 c16_i32_12
  let v19 : Index := Scalar.indexCast v18
  ![v19.toNat]
def k0_off3 (i : grid0.Coords) (c0_i32_2 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  let v4 : BitVec 32 := Scalar.addi v2 c0_i32_2
  let c256_i32_3 : BitVec 32 := 256#32
  let v5 : BitVec 32 := Scalar.muli v4 c256_i32_3
  ![v5.toNat]
@[reducible] def k0_t2_loop : Scf.Loop 32 :=
  let c0_i32_9 : BitVec 32 := 0#32
  let c4_i32 : BitVec 32 := 4#32
  let v16 : BitVec 32 := Scalar.addi c0_i32_9 c4_i32
  let c1_i32_10 : BitVec 32 := 1#32
  ⟨c0_i32_9, v16, c1_i32_10⟩
@[reducible] def k0_t3_loop : Scf.Loop 32 :=
  let c0_i32_18 : BitVec 32 := 0#32
  let c8_i32 : BitVec 32 := 8#32
  let v23 : BitVec 32 := Scalar.addi c0_i32_18 c8_i32
  let c1_i32_19 : BitVec 32 := 1#32
  ⟨c0_i32_18, v23, c1_i32_19⟩
def k0_off4 (k0_t2 : Fin k0_t2_loop.trips) (k0_t3 : Fin k0_t3_loop.trips) : Fin 1 → Nat :=
  let c0_i32_9 : BitVec 32 := 0#32
  let c1_i32_10 : BitVec 32 := 1#32
  let arg10 : BitVec 32 := Scf.iv c0_i32_9 c1_i32_10 k0_t2
  let c2_i32 : BitVec 32 := 2#32
  let v17 : BitVec 32 := Scalar.muli arg10 c2_i32
  let c0_i32_12 : BitVec 32 := 0#32
  let v18 : BitVec 32 := Scalar.addi v17 c0_i32_12
  let c128_i32_35 : BitVec 32 := 128#32
  let v37 : BitVec 32 := Scalar.muli v18 c128_i32_35
  let c0_i32_18 : BitVec 32 := 0#32
  let c1_i32_19 : BitVec 32 := 1#32
  let arg11 : BitVec 32 := Scf.iv c0_i32_18 c1_i32_19 k0_t3
  let c16_i32_36 : BitVec 32 := 16#32
  let v38 : BitVec 32 := Scalar.muli arg11 c16_i32_36
  let v39 : BitVec 32 := Scalar.addi v37 v38
  let v40 : Index := Scalar.indexCast v39
  ![v40.toNat]
def k0_off5 (k0_t3 : Fin k0_t3_loop.trips) (c0_i32_43 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let v54 : BitVec 32 := Scalar.addi v49 c0_i32_43
  let v55 : Index := Scalar.indexCast v54
  ![v55.toNat]
def k0_off6 (k0_t3 : Fin k0_t3_loop.trips) (c256_i32_44 : BitVec 32) (c0_i32_45 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let v58 : BitVec 32 := Scalar.addi v49 c256_i32_44
  let v59 : BitVec 32 := Scalar.addi v58 c0_i32_45
  let v60 : Index := Scalar.indexCast v59
  ![v60.toNat]
def k0_off7 (v44 : BitVec 32) (c0_i32_61 : BitVec 32) : Fin 1 → Nat :=
  let c256_i32_42 : BitVec 32 := 256#32
  let v53 : BitVec 32 := Scalar.muli v44 c256_i32_42
  let v148 : BitVec 32 := Scalar.addi v53 c0_i32_61
  let v149 : Index := Scalar.indexCast v148
  ![v149.toNat]
def k0_cond1 (v44 : BitVec 32) (v46 : BitVec 32) : BitVec 1 :=
  let v50 : BitVec 1 := Scalar.cmpi .eq v44 v46
  let v51 : BitVec 32 := Scalar.extui v50
  let c0_i32_41 : BitVec 32 := 0#32
  let v52 : BitVec 1 := Scalar.cmpi .ne v51 c0_i32_41
  v52

def k0_chk1 (v44 : BitVec 32) (v46 : BitVec 32) : Prop :=
  (∀ (k0_h1 : k0_cond1 v44 v46 = 1#1), ∀ (r : Fin 16), ∀ a, (k0_off7 v44 (BitVec.ofNat 32 (16 * r.val))) a + S16.size a ≤ S4096.size a)
theorem k0_off7_inb : ∀ (v44 : BitVec 32) (v46 : BitVec 32) (k0_hw1 : k0_chk1 v44 v46), ∀ (k0_h1 : k0_cond1 v44 v46 = 1#1), ∀ (r : Fin 16), ∀ a, (k0_off7 v44 (BitVec.ofNat 32 (16 * r.val))) a + S16.size a ≤ S4096.size a := fun v44 v46 k0_hw1 k0_h1 r => k0_hw1 k0_h1 r

def k0_off8 (v54 : BitVec 32) (c0_i32_43 : BitVec 32) : Fin 1 → Nat :=
  let c256_i32_42 : BitVec 32 := 256#32
  let v55 : BitVec 32 := Scalar.muli v54 c256_i32_42
  let v56 : BitVec 32 := Scalar.addi v55 c0_i32_43
  let v57 : Index := Scalar.indexCast v56
  ![v57.toNat]

def k0_chk2 (v44 : BitVec 32) (v46 : BitVec 32) (v54 : BitVec 32) : Prop :=
  (∀ (k0_h1 : ¬(k0_cond1 v44 v46 = 1#1)), ∀ (r : Fin 16), ∀ a, (k0_off8 v54 (BitVec.ofNat 32 (16 * r.val))) a + S16.size a ≤ S4096.size a)
theorem k0_off8_inb : ∀ (v44 : BitVec 32) (v46 : BitVec 32) (v54 : BitVec 32) (k0_hw2 : k0_chk2 v44 v46 v54), ∀ (k0_h1 : ¬(k0_cond1 v44 v46 = 1#1)), ∀ (r : Fin 16), ∀ a, (k0_off8 v54 (BitVec.ofNat 32 (16 * r.val))) a + S16.size a ≤ S4096.size a := fun v44 v46 v54 k0_hw2 k0_h1 r => k0_hw2 k0_h1 r

def k0_off9 (k0_t3 : Fin k0_t3_loop.trips) (c0_i32_45 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c0_i32_44 : BitVec 32 := 0#32
  let v60 : BitVec 32 := Scalar.addi v49 c0_i32_44
  let v61 : BitVec 32 := Scalar.addi v60 c0_i32_45
  let v62 : Index := Scalar.indexCast v61
  ![v62.toNat]
def k0_off10 (v297 : BitVec 32) (c0_i32_95 : BitVec 32) : Fin 1 → Nat :=
  let c256_i32_94 : BitVec 32 := 256#32
  let v298 : BitVec 32 := Scalar.muli v297 c256_i32_94
  let v299 : BitVec 32 := Scalar.addi v298 c0_i32_95
  let v300 : Index := Scalar.indexCast v299
  ![v300.toNat]

def k0_chk3 (v44 : BitVec 32) (v46 : BitVec 32) (v297 : BitVec 32) : Prop :=
  (∀ (k0_h1 : ¬(k0_cond1 v44 v46 = 1#1)), ∀ (r : Fin 16), ∀ a, (k0_off10 v297 (BitVec.ofNat 32 (16 * r.val))) a + S16.size a ≤ S4096.size a)
theorem k0_off10_inb : ∀ (v44 : BitVec 32) (v46 : BitVec 32) (v297 : BitVec 32) (k0_hw3 : k0_chk3 v44 v46 v297), ∀ (k0_h1 : ¬(k0_cond1 v44 v46 = 1#1)), ∀ (r : Fin 16), ∀ a, (k0_off10 v297 (BitVec.ofNat 32 (16 * r.val))) a + S16.size a ≤ S4096.size a := fun v44 v46 v297 k0_hw3 k0_h1 r => k0_hw3 k0_h1 r

def k0_off11 (k0_t3 : Fin k0_t3_loop.trips) (c0_i32_97 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c256_i32_96 : BitVec 32 := 256#32
  let v303 : BitVec 32 := Scalar.addi v49 c256_i32_96
  let v304 : BitVec 32 := Scalar.addi v303 c0_i32_97
  let v305 : Index := Scalar.indexCast v304
  ![v305.toNat]
def k0_off12 (v540 : BitVec 32) (c0_i32_160 : BitVec 32) : Fin 1 → Nat :=
  let c256_i32_159 : BitVec 32 := 256#32
  let v541 : BitVec 32 := Scalar.muli v540 c256_i32_159
  let v542 : BitVec 32 := Scalar.addi v541 c0_i32_160
  let v543 : Index := Scalar.indexCast v542
  ![v543.toNat]

def k0_chk4 (v44 : BitVec 32) (v46 : BitVec 32) (v540 : BitVec 32) : Prop :=
  (∀ (k0_h1 : ¬(k0_cond1 v44 v46 = 1#1)), ∀ (r : Fin 16), ∀ a, (k0_off12 v540 (BitVec.ofNat 32 (16 * r.val))) a + S16.size a ≤ S4096.size a)
theorem k0_off12_inb : ∀ (v44 : BitVec 32) (v46 : BitVec 32) (v540 : BitVec 32) (k0_hw4 : k0_chk4 v44 v46 v540), ∀ (k0_h1 : ¬(k0_cond1 v44 v46 = 1#1)), ∀ (r : Fin 16), ∀ a, (k0_off12 v540 (BitVec.ofNat 32 (16 * r.val))) a + S16.size a ≤ S4096.size a := fun v44 v46 v540 k0_hw4 k0_h1 r => k0_hw4 k0_h1 r

def k0_off13 (k0_t3 : Fin k0_t3_loop.trips) (c0_i32_161 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c512_i32 : BitVec 32 := 512#32
  let v546 : BitVec 32 := Scalar.addi v49 c512_i32
  let v547 : BitVec 32 := Scalar.addi v546 c0_i32_161
  let v548 : Index := Scalar.indexCast v547
  ![v548.toNat]
def k0_off14 (v783 : BitVec 32) (c0_i32_224 : BitVec 32) : Fin 1 → Nat :=
  let c256_i32_223 : BitVec 32 := 256#32
  let v784 : BitVec 32 := Scalar.muli v783 c256_i32_223
  let v785 : BitVec 32 := Scalar.addi v784 c0_i32_224
  let v786 : Index := Scalar.indexCast v785
  ![v786.toNat]

def k0_chk5 (v44 : BitVec 32) (v46 : BitVec 32) (v783 : BitVec 32) : Prop :=
  (∀ (k0_h1 : ¬(k0_cond1 v44 v46 = 1#1)), ∀ (r : Fin 16), ∀ a, (k0_off14 v783 (BitVec.ofNat 32 (16 * r.val))) a + S16.size a ≤ S4096.size a)
theorem k0_off14_inb : ∀ (v44 : BitVec 32) (v46 : BitVec 32) (v783 : BitVec 32) (k0_hw5 : k0_chk5 v44 v46 v783), ∀ (k0_h1 : ¬(k0_cond1 v44 v46 = 1#1)), ∀ (r : Fin 16), ∀ a, (k0_off14 v783 (BitVec.ofNat 32 (16 * r.val))) a + S16.size a ≤ S4096.size a := fun v44 v46 v783 k0_hw5 k0_h1 r => k0_hw5 k0_h1 r

def k0_off15 (k0_t3 : Fin k0_t3_loop.trips) (c0_i32_225 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c768_i32 : BitVec 32 := 768#32
  let v789 : BitVec 32 := Scalar.addi v49 c768_i32
  let v790 : BitVec 32 := Scalar.addi v789 c0_i32_225
  let v791 : Index := Scalar.indexCast v790
  ![v791.toNat]
def k0_off16 (v1026 : BitVec 32) (c0_i32_288 : BitVec 32) : Fin 1 → Nat :=
  let c256_i32_287 : BitVec 32 := 256#32
  let v1027 : BitVec 32 := Scalar.muli v1026 c256_i32_287
  let v1028 : BitVec 32 := Scalar.addi v1027 c0_i32_288
  let v1029 : Index := Scalar.indexCast v1028
  ![v1029.toNat]

def k0_chk6 (v44 : BitVec 32) (v46 : BitVec 32) (v1026 : BitVec 32) : Prop :=
  (∀ (k0_h1 : ¬(k0_cond1 v44 v46 = 1#1)), ∀ (r : Fin 16), ∀ a, (k0_off16 v1026 (BitVec.ofNat 32 (16 * r.val))) a + S16.size a ≤ S4096.size a)
theorem k0_off16_inb : ∀ (v44 : BitVec 32) (v46 : BitVec 32) (v1026 : BitVec 32) (k0_hw6 : k0_chk6 v44 v46 v1026), ∀ (k0_h1 : ¬(k0_cond1 v44 v46 = 1#1)), ∀ (r : Fin 16), ∀ a, (k0_off16 v1026 (BitVec.ofNat 32 (16 * r.val))) a + S16.size a ≤ S4096.size a := fun v44 v46 v1026 k0_hw6 k0_h1 r => k0_hw6 k0_h1 r

def k0_off17 (k0_t3 : Fin k0_t3_loop.trips) (c0_i32_290 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c1024_i32_289 : BitVec 32 := 1024#32
  let v1032 : BitVec 32 := Scalar.addi v49 c1024_i32_289
  let v1033 : BitVec 32 := Scalar.addi v1032 c0_i32_290
  let v1034 : Index := Scalar.indexCast v1033
  ![v1034.toNat]
def k0_off18 (v1269 : BitVec 32) (c0_i32_353 : BitVec 32) : Fin 1 → Nat :=
  let c256_i32_352 : BitVec 32 := 256#32
  let v1270 : BitVec 32 := Scalar.muli v1269 c256_i32_352
  let v1271 : BitVec 32 := Scalar.addi v1270 c0_i32_353
  let v1272 : Index := Scalar.indexCast v1271
  ![v1272.toNat]

def k0_chk7 (v44 : BitVec 32) (v46 : BitVec 32) (v1269 : BitVec 32) : Prop :=
  (∀ (k0_h1 : ¬(k0_cond1 v44 v46 = 1#1)), ∀ (r : Fin 16), ∀ a, (k0_off18 v1269 (BitVec.ofNat 32 (16 * r.val))) a + S16.size a ≤ S4096.size a)
theorem k0_off18_inb : ∀ (v44 : BitVec 32) (v46 : BitVec 32) (v1269 : BitVec 32) (k0_hw7 : k0_chk7 v44 v46 v1269), ∀ (k0_h1 : ¬(k0_cond1 v44 v46 = 1#1)), ∀ (r : Fin 16), ∀ a, (k0_off18 v1269 (BitVec.ofNat 32 (16 * r.val))) a + S16.size a ≤ S4096.size a := fun v44 v46 v1269 k0_hw7 k0_h1 r => k0_hw7 k0_h1 r

def k0_off19 (k0_t3 : Fin k0_t3_loop.trips) (c0_i32_354 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c1280_i32 : BitVec 32 := 1280#32
  let v1275 : BitVec 32 := Scalar.addi v49 c1280_i32
  let v1276 : BitVec 32 := Scalar.addi v1275 c0_i32_354
  let v1277 : Index := Scalar.indexCast v1276
  ![v1277.toNat]
def k0_off20 (v1512 : BitVec 32) (c0_i32_417 : BitVec 32) : Fin 1 → Nat :=
  let c256_i32_416 : BitVec 32 := 256#32
  let v1513 : BitVec 32 := Scalar.muli v1512 c256_i32_416
  let v1514 : BitVec 32 := Scalar.addi v1513 c0_i32_417
  let v1515 : Index := Scalar.indexCast v1514
  ![v1515.toNat]

def k0_chk8 (v44 : BitVec 32) (v46 : BitVec 32) (v1512 : BitVec 32) : Prop :=
  (∀ (k0_h1 : ¬(k0_cond1 v44 v46 = 1#1)), ∀ (r : Fin 16), ∀ a, (k0_off20 v1512 (BitVec.ofNat 32 (16 * r.val))) a + S16.size a ≤ S4096.size a)
theorem k0_off20_inb : ∀ (v44 : BitVec 32) (v46 : BitVec 32) (v1512 : BitVec 32) (k0_hw8 : k0_chk8 v44 v46 v1512), ∀ (k0_h1 : ¬(k0_cond1 v44 v46 = 1#1)), ∀ (r : Fin 16), ∀ a, (k0_off20 v1512 (BitVec.ofNat 32 (16 * r.val))) a + S16.size a ≤ S4096.size a := fun v44 v46 v1512 k0_hw8 k0_h1 r => k0_hw8 k0_h1 r

def k0_off21 (k0_t3 : Fin k0_t3_loop.trips) (c0_i32_418 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c1536_i32 : BitVec 32 := 1536#32
  let v1518 : BitVec 32 := Scalar.addi v49 c1536_i32
  let v1519 : BitVec 32 := Scalar.addi v1518 c0_i32_418
  let v1520 : Index := Scalar.indexCast v1519
  ![v1520.toNat]
def k0_off22 (v1755 : BitVec 32) (c0_i32_481 : BitVec 32) : Fin 1 → Nat :=
  let c256_i32_480 : BitVec 32 := 256#32
  let v1756 : BitVec 32 := Scalar.muli v1755 c256_i32_480
  let v1757 : BitVec 32 := Scalar.addi v1756 c0_i32_481
  let v1758 : Index := Scalar.indexCast v1757
  ![v1758.toNat]

def k0_chk9 (v44 : BitVec 32) (v46 : BitVec 32) (v1755 : BitVec 32) : Prop :=
  (∀ (k0_h1 : ¬(k0_cond1 v44 v46 = 1#1)), ∀ (r : Fin 16), ∀ a, (k0_off22 v1755 (BitVec.ofNat 32 (16 * r.val))) a + S16.size a ≤ S4096.size a)
theorem k0_off22_inb : ∀ (v44 : BitVec 32) (v46 : BitVec 32) (v1755 : BitVec 32) (k0_hw9 : k0_chk9 v44 v46 v1755), ∀ (k0_h1 : ¬(k0_cond1 v44 v46 = 1#1)), ∀ (r : Fin 16), ∀ a, (k0_off22 v1755 (BitVec.ofNat 32 (16 * r.val))) a + S16.size a ≤ S4096.size a := fun v44 v46 v1755 k0_hw9 k0_h1 r => k0_hw9 k0_h1 r

def k0_off23 (k0_t3 : Fin k0_t3_loop.trips) (c0_i32_482 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c1792_i32 : BitVec 32 := 1792#32
  let v1761 : BitVec 32 := Scalar.addi v49 c1792_i32
  let v1762 : BitVec 32 := Scalar.addi v1761 c0_i32_482
  let v1763 : Index := Scalar.indexCast v1762
  ![v1763.toNat]
def k0_off24 (v1998 : BitVec 32) (c0_i32_545 : BitVec 32) : Fin 1 → Nat :=
  let c256_i32_544 : BitVec 32 := 256#32
  let v1999 : BitVec 32 := Scalar.muli v1998 c256_i32_544
  let v2000 : BitVec 32 := Scalar.addi v1999 c0_i32_545
  let v2001 : Index := Scalar.indexCast v2000
  ![v2001.toNat]

def k0_chk10 (v44 : BitVec 32) (v46 : BitVec 32) (v1998 : BitVec 32) : Prop :=
  (∀ (k0_h1 : ¬(k0_cond1 v44 v46 = 1#1)), ∀ (r : Fin 16), ∀ a, (k0_off24 v1998 (BitVec.ofNat 32 (16 * r.val))) a + S16.size a ≤ S4096.size a)
theorem k0_off24_inb : ∀ (v44 : BitVec 32) (v46 : BitVec 32) (v1998 : BitVec 32) (k0_hw10 : k0_chk10 v44 v46 v1998), ∀ (k0_h1 : ¬(k0_cond1 v44 v46 = 1#1)), ∀ (r : Fin 16), ∀ a, (k0_off24 v1998 (BitVec.ofNat 32 (16 * r.val))) a + S16.size a ≤ S4096.size a := fun v44 v46 v1998 k0_hw10 k0_h1 r => k0_hw10 k0_h1 r

def k0_off25 (k0_t3 : Fin k0_t3_loop.trips) (c0_i32_546 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c2048_i32 : BitVec 32 := 2048#32
  let v2004 : BitVec 32 := Scalar.addi v49 c2048_i32
  let v2005 : BitVec 32 := Scalar.addi v2004 c0_i32_546
  let v2006 : Index := Scalar.indexCast v2005
  ![v2006.toNat]
def k0_off26 (v2241 : BitVec 32) (c0_i32_609 : BitVec 32) : Fin 1 → Nat :=
  let c256_i32_608 : BitVec 32 := 256#32
  let v2242 : BitVec 32 := Scalar.muli v2241 c256_i32_608
  let v2243 : BitVec 32 := Scalar.addi v2242 c0_i32_609
  let v2244 : Index := Scalar.indexCast v2243
  ![v2244.toNat]

def k0_chk11 (v44 : BitVec 32) (v46 : BitVec 32) (v2241 : BitVec 32) : Prop :=
  (∀ (k0_h1 : ¬(k0_cond1 v44 v46 = 1#1)), ∀ (r : Fin 16), ∀ a, (k0_off26 v2241 (BitVec.ofNat 32 (16 * r.val))) a + S16.size a ≤ S4096.size a)
theorem k0_off26_inb : ∀ (v44 : BitVec 32) (v46 : BitVec 32) (v2241 : BitVec 32) (k0_hw11 : k0_chk11 v44 v46 v2241), ∀ (k0_h1 : ¬(k0_cond1 v44 v46 = 1#1)), ∀ (r : Fin 16), ∀ a, (k0_off26 v2241 (BitVec.ofNat 32 (16 * r.val))) a + S16.size a ≤ S4096.size a := fun v44 v46 v2241 k0_hw11 k0_h1 r => k0_hw11 k0_h1 r

def k0_off27 (k0_t3 : Fin k0_t3_loop.trips) (c0_i32_610 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c2304_i32 : BitVec 32 := 2304#32
  let v2247 : BitVec 32 := Scalar.addi v49 c2304_i32
  let v2248 : BitVec 32 := Scalar.addi v2247 c0_i32_610
  let v2249 : Index := Scalar.indexCast v2248
  ![v2249.toNat]
def k0_off28 (v2484 : BitVec 32) (c0_i32_673 : BitVec 32) : Fin 1 → Nat :=
  let c256_i32_672 : BitVec 32 := 256#32
  let v2485 : BitVec 32 := Scalar.muli v2484 c256_i32_672
  let v2486 : BitVec 32 := Scalar.addi v2485 c0_i32_673
  let v2487 : Index := Scalar.indexCast v2486
  ![v2487.toNat]

def k0_chk12 (v44 : BitVec 32) (v46 : BitVec 32) (v2484 : BitVec 32) : Prop :=
  (∀ (k0_h1 : ¬(k0_cond1 v44 v46 = 1#1)), ∀ (r : Fin 16), ∀ a, (k0_off28 v2484 (BitVec.ofNat 32 (16 * r.val))) a + S16.size a ≤ S4096.size a)
theorem k0_off28_inb : ∀ (v44 : BitVec 32) (v46 : BitVec 32) (v2484 : BitVec 32) (k0_hw12 : k0_chk12 v44 v46 v2484), ∀ (k0_h1 : ¬(k0_cond1 v44 v46 = 1#1)), ∀ (r : Fin 16), ∀ a, (k0_off28 v2484 (BitVec.ofNat 32 (16 * r.val))) a + S16.size a ≤ S4096.size a := fun v44 v46 v2484 k0_hw12 k0_h1 r => k0_hw12 k0_h1 r

def k0_off29 (k0_t3 : Fin k0_t3_loop.trips) (c0_i32_674 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c2560_i32 : BitVec 32 := 2560#32
  let v2490 : BitVec 32 := Scalar.addi v49 c2560_i32
  let v2491 : BitVec 32 := Scalar.addi v2490 c0_i32_674
  let v2492 : Index := Scalar.indexCast v2491
  ![v2492.toNat]
def k0_off30 (v2727 : BitVec 32) (c0_i32_737 : BitVec 32) : Fin 1 → Nat :=
  let c256_i32_736 : BitVec 32 := 256#32
  let v2728 : BitVec 32 := Scalar.muli v2727 c256_i32_736
  let v2729 : BitVec 32 := Scalar.addi v2728 c0_i32_737
  let v2730 : Index := Scalar.indexCast v2729
  ![v2730.toNat]

def k0_chk13 (v44 : BitVec 32) (v46 : BitVec 32) (v2727 : BitVec 32) : Prop :=
  (∀ (k0_h1 : ¬(k0_cond1 v44 v46 = 1#1)), ∀ (r : Fin 16), ∀ a, (k0_off30 v2727 (BitVec.ofNat 32 (16 * r.val))) a + S16.size a ≤ S4096.size a)
theorem k0_off30_inb : ∀ (v44 : BitVec 32) (v46 : BitVec 32) (v2727 : BitVec 32) (k0_hw13 : k0_chk13 v44 v46 v2727), ∀ (k0_h1 : ¬(k0_cond1 v44 v46 = 1#1)), ∀ (r : Fin 16), ∀ a, (k0_off30 v2727 (BitVec.ofNat 32 (16 * r.val))) a + S16.size a ≤ S4096.size a := fun v44 v46 v2727 k0_hw13 k0_h1 r => k0_hw13 k0_h1 r

def k0_off31 (k0_t3 : Fin k0_t3_loop.trips) (c0_i32_738 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c2816_i32 : BitVec 32 := 2816#32
  let v2733 : BitVec 32 := Scalar.addi v49 c2816_i32
  let v2734 : BitVec 32 := Scalar.addi v2733 c0_i32_738
  let v2735 : Index := Scalar.indexCast v2734
  ![v2735.toNat]
def k0_off32 (v2970 : BitVec 32) (c0_i32_801 : BitVec 32) : Fin 1 → Nat :=
  let c256_i32_800 : BitVec 32 := 256#32
  let v2971 : BitVec 32 := Scalar.muli v2970 c256_i32_800
  let v2972 : BitVec 32 := Scalar.addi v2971 c0_i32_801
  let v2973 : Index := Scalar.indexCast v2972
  ![v2973.toNat]

def k0_chk14 (v44 : BitVec 32) (v46 : BitVec 32) (v2970 : BitVec 32) : Prop :=
  (∀ (k0_h1 : ¬(k0_cond1 v44 v46 = 1#1)), ∀ (r : Fin 16), ∀ a, (k0_off32 v2970 (BitVec.ofNat 32 (16 * r.val))) a + S16.size a ≤ S4096.size a)
theorem k0_off32_inb : ∀ (v44 : BitVec 32) (v46 : BitVec 32) (v2970 : BitVec 32) (k0_hw14 : k0_chk14 v44 v46 v2970), ∀ (k0_h1 : ¬(k0_cond1 v44 v46 = 1#1)), ∀ (r : Fin 16), ∀ a, (k0_off32 v2970 (BitVec.ofNat 32 (16 * r.val))) a + S16.size a ≤ S4096.size a := fun v44 v46 v2970 k0_hw14 k0_h1 r => k0_hw14 k0_h1 r

def k0_off33 (k0_t3 : Fin k0_t3_loop.trips) (c0_i32_802 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c3072_i32 : BitVec 32 := 3072#32
  let v2976 : BitVec 32 := Scalar.addi v49 c3072_i32
  let v2977 : BitVec 32 := Scalar.addi v2976 c0_i32_802
  let v2978 : Index := Scalar.indexCast v2977
  ![v2978.toNat]
def k0_off34 (v3213 : BitVec 32) (c0_i32_865 : BitVec 32) : Fin 1 → Nat :=
  let c256_i32_864 : BitVec 32 := 256#32
  let v3214 : BitVec 32 := Scalar.muli v3213 c256_i32_864
  let v3215 : BitVec 32 := Scalar.addi v3214 c0_i32_865
  let v3216 : Index := Scalar.indexCast v3215
  ![v3216.toNat]

def k0_chk15 (v44 : BitVec 32) (v46 : BitVec 32) (v3213 : BitVec 32) : Prop :=
  (∀ (k0_h1 : ¬(k0_cond1 v44 v46 = 1#1)), ∀ (r : Fin 16), ∀ a, (k0_off34 v3213 (BitVec.ofNat 32 (16 * r.val))) a + S16.size a ≤ S4096.size a)
theorem k0_off34_inb : ∀ (v44 : BitVec 32) (v46 : BitVec 32) (v3213 : BitVec 32) (k0_hw15 : k0_chk15 v44 v46 v3213), ∀ (k0_h1 : ¬(k0_cond1 v44 v46 = 1#1)), ∀ (r : Fin 16), ∀ a, (k0_off34 v3213 (BitVec.ofNat 32 (16 * r.val))) a + S16.size a ≤ S4096.size a := fun v44 v46 v3213 k0_hw15 k0_h1 r => k0_hw15 k0_h1 r

def k0_off35 (k0_t3 : Fin k0_t3_loop.trips) (c0_i32_866 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c3328_i32 : BitVec 32 := 3328#32
  let v3219 : BitVec 32 := Scalar.addi v49 c3328_i32
  let v3220 : BitVec 32 := Scalar.addi v3219 c0_i32_866
  let v3221 : Index := Scalar.indexCast v3220
  ![v3221.toNat]
def k0_off36 (v3456 : BitVec 32) (c0_i32_929 : BitVec 32) : Fin 1 → Nat :=
  let c256_i32_928 : BitVec 32 := 256#32
  let v3457 : BitVec 32 := Scalar.muli v3456 c256_i32_928
  let v3458 : BitVec 32 := Scalar.addi v3457 c0_i32_929
  let v3459 : Index := Scalar.indexCast v3458
  ![v3459.toNat]

def k0_chk16 (v44 : BitVec 32) (v46 : BitVec 32) (v3456 : BitVec 32) : Prop :=
  (∀ (k0_h1 : ¬(k0_cond1 v44 v46 = 1#1)), ∀ (r : Fin 16), ∀ a, (k0_off36 v3456 (BitVec.ofNat 32 (16 * r.val))) a + S16.size a ≤ S4096.size a)
theorem k0_off36_inb : ∀ (v44 : BitVec 32) (v46 : BitVec 32) (v3456 : BitVec 32) (k0_hw16 : k0_chk16 v44 v46 v3456), ∀ (k0_h1 : ¬(k0_cond1 v44 v46 = 1#1)), ∀ (r : Fin 16), ∀ a, (k0_off36 v3456 (BitVec.ofNat 32 (16 * r.val))) a + S16.size a ≤ S4096.size a := fun v44 v46 v3456 k0_hw16 k0_h1 r => k0_hw16 k0_h1 r

def k0_off37 (k0_t3 : Fin k0_t3_loop.trips) (c0_i32_930 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c3584_i32 : BitVec 32 := 3584#32
  let v3462 : BitVec 32 := Scalar.addi v49 c3584_i32
  let v3463 : BitVec 32 := Scalar.addi v3462 c0_i32_930
  let v3464 : Index := Scalar.indexCast v3463
  ![v3464.toNat]
def k0_off38 (v3699 : BitVec 32) (c0_i32_993 : BitVec 32) : Fin 1 → Nat :=
  let c256_i32_992 : BitVec 32 := 256#32
  let v3700 : BitVec 32 := Scalar.muli v3699 c256_i32_992
  let v3701 : BitVec 32 := Scalar.addi v3700 c0_i32_993
  let v3702 : Index := Scalar.indexCast v3701
  ![v3702.toNat]

def k0_chk17 (v44 : BitVec 32) (v46 : BitVec 32) (v3699 : BitVec 32) : Prop :=
  (∀ (k0_h1 : ¬(k0_cond1 v44 v46 = 1#1)), ∀ (r : Fin 16), ∀ a, (k0_off38 v3699 (BitVec.ofNat 32 (16 * r.val))) a + S16.size a ≤ S4096.size a)
theorem k0_off38_inb : ∀ (v44 : BitVec 32) (v46 : BitVec 32) (v3699 : BitVec 32) (k0_hw17 : k0_chk17 v44 v46 v3699), ∀ (k0_h1 : ¬(k0_cond1 v44 v46 = 1#1)), ∀ (r : Fin 16), ∀ a, (k0_off38 v3699 (BitVec.ofNat 32 (16 * r.val))) a + S16.size a ≤ S4096.size a := fun v44 v46 v3699 k0_hw17 k0_h1 r => k0_hw17 k0_h1 r

def k0_off39 (k0_t3 : Fin k0_t3_loop.trips) (c0_i32_994 : BitVec 32) : Fin 1 → Nat :=
  let c0_i32_39 : BitVec 32 := 0#32
  let c0_i32_18 : BitVec 32 := 0#32
  let c1_i32_19 : BitVec 32 := 1#32
  let arg11 : BitVec 32 := Scf.iv c0_i32_18 c1_i32_19 k0_t3
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c0_i32_39 v48
  let c3840_i32 : BitVec 32 := 3840#32
  let v3705 : BitVec 32 := Scalar.addi v49 c3840_i32
  let v3706 : BitVec 32 := Scalar.addi v3705 c0_i32_994
  let v3707 : Index := Scalar.indexCast v3706
  ![v3707.toNat]
def k0_cond2 (k0_t2 : Fin k0_t2_loop.trips) : BitVec 1 :=
  let c0_i32_9 : BitVec 32 := 0#32
  let c1_i32_10 : BitVec 32 := 1#32
  let arg10 : BitVec 32 := Scf.iv c0_i32_9 c1_i32_10 k0_t2
  let c3_i32 : BitVec 32 := 3#32
  let v24 : BitVec 1 := Scalar.cmpi .slt arg10 c3_i32
  let v25 : BitVec 32 := Scalar.extui v24
  let c0_i32_21 : BitVec 32 := 0#32
  let v26 : BitVec 1 := Scalar.cmpi .ne v25 c0_i32_21
  v26

def k0_off40 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  let c0_i32_9 : BitVec 32 := 0#32
  let c1_i32_10 : BitVec 32 := 1#32
  let arg10 : BitVec 32 := Scf.iv c0_i32_9 c1_i32_10 k0_t2
  let c2_i32 : BitVec 32 := 2#32
  let v17 : BitVec 32 := Scalar.muli arg10 c2_i32
  let c0_i32_12 : BitVec 32 := 0#32
  let v18 : BitVec 32 := Scalar.addi v17 c0_i32_12
  let c2_i32_35 : BitVec 32 := 2#32
  let v37 : BitVec 32 := Scalar.addi v18 c2_i32_35
  let c128_i32_36 : BitVec 32 := 128#32
  let v38 : BitVec 32 := Scalar.muli v37 c128_i32_36
  let v39 : BitVec 32 := Scalar.addi v2 v38
  let c256_i32_37 : BitVec 32 := 256#32
  let v40 : BitVec 32 := Scalar.muli v39 c256_i32_37
  ![v40.toNat]
@[reducible] def k0_t4_loop : Scf.Loop 32 :=
  let c0_i32_29 : BitVec 32 := 0#32
  let c8_i32_30 : BitVec 32 := 8#32
  let v33 : BitVec 32 := Scalar.addi c0_i32_29 c8_i32_30
  let c1_i32_31 : BitVec 32 := 1#32
  ⟨c0_i32_29, v33, c1_i32_31⟩
def k0_off41 (k0_t2 : Fin k0_t2_loop.trips) (k0_t4 : Fin k0_t4_loop.trips) : Fin 1 → Nat :=
  let c0_i32_9 : BitVec 32 := 0#32
  let c1_i32_10 : BitVec 32 := 1#32
  let arg10 : BitVec 32 := Scf.iv c0_i32_9 c1_i32_10 k0_t2
  let c2_i32_22 : BitVec 32 := 2#32
  let v27 : BitVec 32 := Scalar.muli arg10 c2_i32_22
  let c1_i32_23 : BitVec 32 := 1#32
  let v28 : BitVec 32 := Scalar.addi v27 c1_i32_23
  let c128_i32_35 : BitVec 32 := 128#32
  let v37 : BitVec 32 := Scalar.muli v28 c128_i32_35
  let c0_i32_29 : BitVec 32 := 0#32
  let c1_i32_31 : BitVec 32 := 1#32
  let arg11 : BitVec 32 := Scf.iv c0_i32_29 c1_i32_31 k0_t4
  let c16_i32_36 : BitVec 32 := 16#32
  let v38 : BitVec 32 := Scalar.muli arg11 c16_i32_36
  let v39 : BitVec 32 := Scalar.addi v37 v38
  let v40 : Index := Scalar.indexCast v39
  ![v40.toNat]
def k0_off42 (k0_t4 : Fin k0_t4_loop.trips) (c0_i32_43 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let v54 : BitVec 32 := Scalar.addi v49 c0_i32_43
  let v55 : Index := Scalar.indexCast v54
  ![v55.toNat]
def k0_off43 (k0_t4 : Fin k0_t4_loop.trips) (c256_i32_44 : BitVec 32) (c0_i32_45 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let v58 : BitVec 32 := Scalar.addi v49 c256_i32_44
  let v59 : BitVec 32 := Scalar.addi v58 c0_i32_45
  let v60 : Index := Scalar.indexCast v59
  ![v60.toNat]
def k0_off44 (v44 : BitVec 32) (c0_i32_61 : BitVec 32) : Fin 1 → Nat :=
  let c256_i32_42 : BitVec 32 := 256#32
  let v53 : BitVec 32 := Scalar.muli v44 c256_i32_42
  let v148 : BitVec 32 := Scalar.addi v53 c0_i32_61
  let v149 : Index := Scalar.indexCast v148
  ![v149.toNat]
def k0_cond3 (v44 : BitVec 32) (v46 : BitVec 32) : BitVec 1 :=
  let v50 : BitVec 1 := Scalar.cmpi .eq v44 v46
  let v51 : BitVec 32 := Scalar.extui v50
  let c0_i32_41 : BitVec 32 := 0#32
  let v52 : BitVec 1 := Scalar.cmpi .ne v51 c0_i32_41
  v52

def k0_chk18 (v44 : BitVec 32) (v46 : BitVec 32) : Prop :=
  (∀ (k0_h3 : k0_cond3 v44 v46 = 1#1), ∀ (r : Fin 16), ∀ a, (k0_off44 v44 (BitVec.ofNat 32 (16 * r.val))) a + S16.size a ≤ S4096.size a)
theorem k0_off44_inb : ∀ (v44 : BitVec 32) (v46 : BitVec 32) (k0_hw18 : k0_chk18 v44 v46), ∀ (k0_h3 : k0_cond3 v44 v46 = 1#1), ∀ (r : Fin 16), ∀ a, (k0_off44 v44 (BitVec.ofNat 32 (16 * r.val))) a + S16.size a ≤ S4096.size a := fun v44 v46 k0_hw18 k0_h3 r => k0_hw18 k0_h3 r

def k0_off45 (v54 : BitVec 32) (c0_i32_43 : BitVec 32) : Fin 1 → Nat :=
  let c256_i32_42 : BitVec 32 := 256#32
  let v55 : BitVec 32 := Scalar.muli v54 c256_i32_42
  let v56 : BitVec 32 := Scalar.addi v55 c0_i32_43
  let v57 : Index := Scalar.indexCast v56
  ![v57.toNat]

def k0_chk19 (v44 : BitVec 32) (v46 : BitVec 32) (v54 : BitVec 32) : Prop :=
  (∀ (k0_h3 : ¬(k0_cond3 v44 v46 = 1#1)), ∀ (r : Fin 16), ∀ a, (k0_off45 v54 (BitVec.ofNat 32 (16 * r.val))) a + S16.size a ≤ S4096.size a)
theorem k0_off45_inb : ∀ (v44 : BitVec 32) (v46 : BitVec 32) (v54 : BitVec 32) (k0_hw19 : k0_chk19 v44 v46 v54), ∀ (k0_h3 : ¬(k0_cond3 v44 v46 = 1#1)), ∀ (r : Fin 16), ∀ a, (k0_off45 v54 (BitVec.ofNat 32 (16 * r.val))) a + S16.size a ≤ S4096.size a := fun v44 v46 v54 k0_hw19 k0_h3 r => k0_hw19 k0_h3 r

def k0_off46 (k0_t4 : Fin k0_t4_loop.trips) (c0_i32_45 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c0_i32_44 : BitVec 32 := 0#32
  let v60 : BitVec 32 := Scalar.addi v49 c0_i32_44
  let v61 : BitVec 32 := Scalar.addi v60 c0_i32_45
  let v62 : Index := Scalar.indexCast v61
  ![v62.toNat]
def k0_off47 (v297 : BitVec 32) (c0_i32_95 : BitVec 32) : Fin 1 → Nat :=
  let c256_i32_94 : BitVec 32 := 256#32
  let v298 : BitVec 32 := Scalar.muli v297 c256_i32_94
  let v299 : BitVec 32 := Scalar.addi v298 c0_i32_95
  let v300 : Index := Scalar.indexCast v299
  ![v300.toNat]

def k0_chk20 (v44 : BitVec 32) (v46 : BitVec 32) (v297 : BitVec 32) : Prop :=
  (∀ (k0_h3 : ¬(k0_cond3 v44 v46 = 1#1)), ∀ (r : Fin 16), ∀ a, (k0_off47 v297 (BitVec.ofNat 32 (16 * r.val))) a + S16.size a ≤ S4096.size a)
theorem k0_off47_inb : ∀ (v44 : BitVec 32) (v46 : BitVec 32) (v297 : BitVec 32) (k0_hw20 : k0_chk20 v44 v46 v297), ∀ (k0_h3 : ¬(k0_cond3 v44 v46 = 1#1)), ∀ (r : Fin 16), ∀ a, (k0_off47 v297 (BitVec.ofNat 32 (16 * r.val))) a + S16.size a ≤ S4096.size a := fun v44 v46 v297 k0_hw20 k0_h3 r => k0_hw20 k0_h3 r

def k0_off48 (k0_t4 : Fin k0_t4_loop.trips) (c0_i32_97 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c256_i32_96 : BitVec 32 := 256#32
  let v303 : BitVec 32 := Scalar.addi v49 c256_i32_96
  let v304 : BitVec 32 := Scalar.addi v303 c0_i32_97
  let v305 : Index := Scalar.indexCast v304
  ![v305.toNat]
def k0_off49 (v540 : BitVec 32) (c0_i32_160 : BitVec 32) : Fin 1 → Nat :=
  let c256_i32_159 : BitVec 32 := 256#32
  let v541 : BitVec 32 := Scalar.muli v540 c256_i32_159
  let v542 : BitVec 32 := Scalar.addi v541 c0_i32_160
  let v543 : Index := Scalar.indexCast v542
  ![v543.toNat]

def k0_chk21 (v44 : BitVec 32) (v46 : BitVec 32) (v540 : BitVec 32) : Prop :=
  (∀ (k0_h3 : ¬(k0_cond3 v44 v46 = 1#1)), ∀ (r : Fin 16), ∀ a, (k0_off49 v540 (BitVec.ofNat 32 (16 * r.val))) a + S16.size a ≤ S4096.size a)
theorem k0_off49_inb : ∀ (v44 : BitVec 32) (v46 : BitVec 32) (v540 : BitVec 32) (k0_hw21 : k0_chk21 v44 v46 v540), ∀ (k0_h3 : ¬(k0_cond3 v44 v46 = 1#1)), ∀ (r : Fin 16), ∀ a, (k0_off49 v540 (BitVec.ofNat 32 (16 * r.val))) a + S16.size a ≤ S4096.size a := fun v44 v46 v540 k0_hw21 k0_h3 r => k0_hw21 k0_h3 r

def k0_off50 (k0_t4 : Fin k0_t4_loop.trips) (c0_i32_161 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c512_i32 : BitVec 32 := 512#32
  let v546 : BitVec 32 := Scalar.addi v49 c512_i32
  let v547 : BitVec 32 := Scalar.addi v546 c0_i32_161
  let v548 : Index := Scalar.indexCast v547
  ![v548.toNat]
def k0_off51 (v783 : BitVec 32) (c0_i32_224 : BitVec 32) : Fin 1 → Nat :=
  let c256_i32_223 : BitVec 32 := 256#32
  let v784 : BitVec 32 := Scalar.muli v783 c256_i32_223
  let v785 : BitVec 32 := Scalar.addi v784 c0_i32_224
  let v786 : Index := Scalar.indexCast v785
  ![v786.toNat]

def k0_chk22 (v44 : BitVec 32) (v46 : BitVec 32) (v783 : BitVec 32) : Prop :=
  (∀ (k0_h3 : ¬(k0_cond3 v44 v46 = 1#1)), ∀ (r : Fin 16), ∀ a, (k0_off51 v783 (BitVec.ofNat 32 (16 * r.val))) a + S16.size a ≤ S4096.size a)
theorem k0_off51_inb : ∀ (v44 : BitVec 32) (v46 : BitVec 32) (v783 : BitVec 32) (k0_hw22 : k0_chk22 v44 v46 v783), ∀ (k0_h3 : ¬(k0_cond3 v44 v46 = 1#1)), ∀ (r : Fin 16), ∀ a, (k0_off51 v783 (BitVec.ofNat 32 (16 * r.val))) a + S16.size a ≤ S4096.size a := fun v44 v46 v783 k0_hw22 k0_h3 r => k0_hw22 k0_h3 r

def k0_off52 (k0_t4 : Fin k0_t4_loop.trips) (c0_i32_225 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c768_i32 : BitVec 32 := 768#32
  let v789 : BitVec 32 := Scalar.addi v49 c768_i32
  let v790 : BitVec 32 := Scalar.addi v789 c0_i32_225
  let v791 : Index := Scalar.indexCast v790
  ![v791.toNat]
def k0_off53 (v1026 : BitVec 32) (c0_i32_288 : BitVec 32) : Fin 1 → Nat :=
  let c256_i32_287 : BitVec 32 := 256#32
  let v1027 : BitVec 32 := Scalar.muli v1026 c256_i32_287
  let v1028 : BitVec 32 := Scalar.addi v1027 c0_i32_288
  let v1029 : Index := Scalar.indexCast v1028
  ![v1029.toNat]

def k0_chk23 (v44 : BitVec 32) (v46 : BitVec 32) (v1026 : BitVec 32) : Prop :=
  (∀ (k0_h3 : ¬(k0_cond3 v44 v46 = 1#1)), ∀ (r : Fin 16), ∀ a, (k0_off53 v1026 (BitVec.ofNat 32 (16 * r.val))) a + S16.size a ≤ S4096.size a)
theorem k0_off53_inb : ∀ (v44 : BitVec 32) (v46 : BitVec 32) (v1026 : BitVec 32) (k0_hw23 : k0_chk23 v44 v46 v1026), ∀ (k0_h3 : ¬(k0_cond3 v44 v46 = 1#1)), ∀ (r : Fin 16), ∀ a, (k0_off53 v1026 (BitVec.ofNat 32 (16 * r.val))) a + S16.size a ≤ S4096.size a := fun v44 v46 v1026 k0_hw23 k0_h3 r => k0_hw23 k0_h3 r

def k0_off54 (k0_t4 : Fin k0_t4_loop.trips) (c0_i32_290 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c1024_i32_289 : BitVec 32 := 1024#32
  let v1032 : BitVec 32 := Scalar.addi v49 c1024_i32_289
  let v1033 : BitVec 32 := Scalar.addi v1032 c0_i32_290
  let v1034 : Index := Scalar.indexCast v1033
  ![v1034.toNat]
def k0_off55 (v1269 : BitVec 32) (c0_i32_353 : BitVec 32) : Fin 1 → Nat :=
  let c256_i32_352 : BitVec 32 := 256#32
  let v1270 : BitVec 32 := Scalar.muli v1269 c256_i32_352
  let v1271 : BitVec 32 := Scalar.addi v1270 c0_i32_353
  let v1272 : Index := Scalar.indexCast v1271
  ![v1272.toNat]

def k0_chk24 (v44 : BitVec 32) (v46 : BitVec 32) (v1269 : BitVec 32) : Prop :=
  (∀ (k0_h3 : ¬(k0_cond3 v44 v46 = 1#1)), ∀ (r : Fin 16), ∀ a, (k0_off55 v1269 (BitVec.ofNat 32 (16 * r.val))) a + S16.size a ≤ S4096.size a)
theorem k0_off55_inb : ∀ (v44 : BitVec 32) (v46 : BitVec 32) (v1269 : BitVec 32) (k0_hw24 : k0_chk24 v44 v46 v1269), ∀ (k0_h3 : ¬(k0_cond3 v44 v46 = 1#1)), ∀ (r : Fin 16), ∀ a, (k0_off55 v1269 (BitVec.ofNat 32 (16 * r.val))) a + S16.size a ≤ S4096.size a := fun v44 v46 v1269 k0_hw24 k0_h3 r => k0_hw24 k0_h3 r

def k0_off56 (k0_t4 : Fin k0_t4_loop.trips) (c0_i32_354 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c1280_i32 : BitVec 32 := 1280#32
  let v1275 : BitVec 32 := Scalar.addi v49 c1280_i32
  let v1276 : BitVec 32 := Scalar.addi v1275 c0_i32_354
  let v1277 : Index := Scalar.indexCast v1276
  ![v1277.toNat]
def k0_off57 (v1512 : BitVec 32) (c0_i32_417 : BitVec 32) : Fin 1 → Nat :=
  let c256_i32_416 : BitVec 32 := 256#32
  let v1513 : BitVec 32 := Scalar.muli v1512 c256_i32_416
  let v1514 : BitVec 32 := Scalar.addi v1513 c0_i32_417
  let v1515 : Index := Scalar.indexCast v1514
  ![v1515.toNat]

def k0_chk25 (v44 : BitVec 32) (v46 : BitVec 32) (v1512 : BitVec 32) : Prop :=
  (∀ (k0_h3 : ¬(k0_cond3 v44 v46 = 1#1)), ∀ (r : Fin 16), ∀ a, (k0_off57 v1512 (BitVec.ofNat 32 (16 * r.val))) a + S16.size a ≤ S4096.size a)
theorem k0_off57_inb : ∀ (v44 : BitVec 32) (v46 : BitVec 32) (v1512 : BitVec 32) (k0_hw25 : k0_chk25 v44 v46 v1512), ∀ (k0_h3 : ¬(k0_cond3 v44 v46 = 1#1)), ∀ (r : Fin 16), ∀ a, (k0_off57 v1512 (BitVec.ofNat 32 (16 * r.val))) a + S16.size a ≤ S4096.size a := fun v44 v46 v1512 k0_hw25 k0_h3 r => k0_hw25 k0_h3 r

def k0_off58 (k0_t4 : Fin k0_t4_loop.trips) (c0_i32_418 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c1536_i32 : BitVec 32 := 1536#32
  let v1518 : BitVec 32 := Scalar.addi v49 c1536_i32
  let v1519 : BitVec 32 := Scalar.addi v1518 c0_i32_418
  let v1520 : Index := Scalar.indexCast v1519
  ![v1520.toNat]
def k0_off59 (v1755 : BitVec 32) (c0_i32_481 : BitVec 32) : Fin 1 → Nat :=
  let c256_i32_480 : BitVec 32 := 256#32
  let v1756 : BitVec 32 := Scalar.muli v1755 c256_i32_480
  let v1757 : BitVec 32 := Scalar.addi v1756 c0_i32_481
  let v1758 : Index := Scalar.indexCast v1757
  ![v1758.toNat]

def k0_chk26 (v44 : BitVec 32) (v46 : BitVec 32) (v1755 : BitVec 32) : Prop :=
  (∀ (k0_h3 : ¬(k0_cond3 v44 v46 = 1#1)), ∀ (r : Fin 16), ∀ a, (k0_off59 v1755 (BitVec.ofNat 32 (16 * r.val))) a + S16.size a ≤ S4096.size a)
theorem k0_off59_inb : ∀ (v44 : BitVec 32) (v46 : BitVec 32) (v1755 : BitVec 32) (k0_hw26 : k0_chk26 v44 v46 v1755), ∀ (k0_h3 : ¬(k0_cond3 v44 v46 = 1#1)), ∀ (r : Fin 16), ∀ a, (k0_off59 v1755 (BitVec.ofNat 32 (16 * r.val))) a + S16.size a ≤ S4096.size a := fun v44 v46 v1755 k0_hw26 k0_h3 r => k0_hw26 k0_h3 r

def k0_off60 (k0_t4 : Fin k0_t4_loop.trips) (c0_i32_482 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c1792_i32 : BitVec 32 := 1792#32
  let v1761 : BitVec 32 := Scalar.addi v49 c1792_i32
  let v1762 : BitVec 32 := Scalar.addi v1761 c0_i32_482
  let v1763 : Index := Scalar.indexCast v1762
  ![v1763.toNat]
def k0_off61 (v1998 : BitVec 32) (c0_i32_545 : BitVec 32) : Fin 1 → Nat :=
  let c256_i32_544 : BitVec 32 := 256#32
  let v1999 : BitVec 32 := Scalar.muli v1998 c256_i32_544
  let v2000 : BitVec 32 := Scalar.addi v1999 c0_i32_545
  let v2001 : Index := Scalar.indexCast v2000
  ![v2001.toNat]

def k0_chk27 (v44 : BitVec 32) (v46 : BitVec 32) (v1998 : BitVec 32) : Prop :=
  (∀ (k0_h3 : ¬(k0_cond3 v44 v46 = 1#1)), ∀ (r : Fin 16), ∀ a, (k0_off61 v1998 (BitVec.ofNat 32 (16 * r.val))) a + S16.size a ≤ S4096.size a)
theorem k0_off61_inb : ∀ (v44 : BitVec 32) (v46 : BitVec 32) (v1998 : BitVec 32) (k0_hw27 : k0_chk27 v44 v46 v1998), ∀ (k0_h3 : ¬(k0_cond3 v44 v46 = 1#1)), ∀ (r : Fin 16), ∀ a, (k0_off61 v1998 (BitVec.ofNat 32 (16 * r.val))) a + S16.size a ≤ S4096.size a := fun v44 v46 v1998 k0_hw27 k0_h3 r => k0_hw27 k0_h3 r

def k0_off62 (k0_t4 : Fin k0_t4_loop.trips) (c0_i32_546 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c2048_i32 : BitVec 32 := 2048#32
  let v2004 : BitVec 32 := Scalar.addi v49 c2048_i32
  let v2005 : BitVec 32 := Scalar.addi v2004 c0_i32_546
  let v2006 : Index := Scalar.indexCast v2005
  ![v2006.toNat]
def k0_off63 (v2241 : BitVec 32) (c0_i32_609 : BitVec 32) : Fin 1 → Nat :=
  let c256_i32_608 : BitVec 32 := 256#32
  let v2242 : BitVec 32 := Scalar.muli v2241 c256_i32_608
  let v2243 : BitVec 32 := Scalar.addi v2242 c0_i32_609
  let v2244 : Index := Scalar.indexCast v2243
  ![v2244.toNat]

def k0_chk28 (v44 : BitVec 32) (v46 : BitVec 32) (v2241 : BitVec 32) : Prop :=
  (∀ (k0_h3 : ¬(k0_cond3 v44 v46 = 1#1)), ∀ (r : Fin 16), ∀ a, (k0_off63 v2241 (BitVec.ofNat 32 (16 * r.val))) a + S16.size a ≤ S4096.size a)
theorem k0_off63_inb : ∀ (v44 : BitVec 32) (v46 : BitVec 32) (v2241 : BitVec 32) (k0_hw28 : k0_chk28 v44 v46 v2241), ∀ (k0_h3 : ¬(k0_cond3 v44 v46 = 1#1)), ∀ (r : Fin 16), ∀ a, (k0_off63 v2241 (BitVec.ofNat 32 (16 * r.val))) a + S16.size a ≤ S4096.size a := fun v44 v46 v2241 k0_hw28 k0_h3 r => k0_hw28 k0_h3 r

def k0_off64 (k0_t4 : Fin k0_t4_loop.trips) (c0_i32_610 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c2304_i32 : BitVec 32 := 2304#32
  let v2247 : BitVec 32 := Scalar.addi v49 c2304_i32
  let v2248 : BitVec 32 := Scalar.addi v2247 c0_i32_610
  let v2249 : Index := Scalar.indexCast v2248
  ![v2249.toNat]
def k0_off65 (v2484 : BitVec 32) (c0_i32_673 : BitVec 32) : Fin 1 → Nat :=
  let c256_i32_672 : BitVec 32 := 256#32
  let v2485 : BitVec 32 := Scalar.muli v2484 c256_i32_672
  let v2486 : BitVec 32 := Scalar.addi v2485 c0_i32_673
  let v2487 : Index := Scalar.indexCast v2486
  ![v2487.toNat]

def k0_chk29 (v44 : BitVec 32) (v46 : BitVec 32) (v2484 : BitVec 32) : Prop :=
  (∀ (k0_h3 : ¬(k0_cond3 v44 v46 = 1#1)), ∀ (r : Fin 16), ∀ a, (k0_off65 v2484 (BitVec.ofNat 32 (16 * r.val))) a + S16.size a ≤ S4096.size a)
theorem k0_off65_inb : ∀ (v44 : BitVec 32) (v46 : BitVec 32) (v2484 : BitVec 32) (k0_hw29 : k0_chk29 v44 v46 v2484), ∀ (k0_h3 : ¬(k0_cond3 v44 v46 = 1#1)), ∀ (r : Fin 16), ∀ a, (k0_off65 v2484 (BitVec.ofNat 32 (16 * r.val))) a + S16.size a ≤ S4096.size a := fun v44 v46 v2484 k0_hw29 k0_h3 r => k0_hw29 k0_h3 r

def k0_off66 (k0_t4 : Fin k0_t4_loop.trips) (c0_i32_674 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c2560_i32 : BitVec 32 := 2560#32
  let v2490 : BitVec 32 := Scalar.addi v49 c2560_i32
  let v2491 : BitVec 32 := Scalar.addi v2490 c0_i32_674
  let v2492 : Index := Scalar.indexCast v2491
  ![v2492.toNat]
def k0_off67 (v2727 : BitVec 32) (c0_i32_737 : BitVec 32) : Fin 1 → Nat :=
  let c256_i32_736 : BitVec 32 := 256#32
  let v2728 : BitVec 32 := Scalar.muli v2727 c256_i32_736
  let v2729 : BitVec 32 := Scalar.addi v2728 c0_i32_737
  let v2730 : Index := Scalar.indexCast v2729
  ![v2730.toNat]

def k0_chk30 (v44 : BitVec 32) (v46 : BitVec 32) (v2727 : BitVec 32) : Prop :=
  (∀ (k0_h3 : ¬(k0_cond3 v44 v46 = 1#1)), ∀ (r : Fin 16), ∀ a, (k0_off67 v2727 (BitVec.ofNat 32 (16 * r.val))) a + S16.size a ≤ S4096.size a)
theorem k0_off67_inb : ∀ (v44 : BitVec 32) (v46 : BitVec 32) (v2727 : BitVec 32) (k0_hw30 : k0_chk30 v44 v46 v2727), ∀ (k0_h3 : ¬(k0_cond3 v44 v46 = 1#1)), ∀ (r : Fin 16), ∀ a, (k0_off67 v2727 (BitVec.ofNat 32 (16 * r.val))) a + S16.size a ≤ S4096.size a := fun v44 v46 v2727 k0_hw30 k0_h3 r => k0_hw30 k0_h3 r

def k0_off68 (k0_t4 : Fin k0_t4_loop.trips) (c0_i32_738 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c2816_i32 : BitVec 32 := 2816#32
  let v2733 : BitVec 32 := Scalar.addi v49 c2816_i32
  let v2734 : BitVec 32 := Scalar.addi v2733 c0_i32_738
  let v2735 : Index := Scalar.indexCast v2734
  ![v2735.toNat]
def k0_off69 (v2970 : BitVec 32) (c0_i32_801 : BitVec 32) : Fin 1 → Nat :=
  let c256_i32_800 : BitVec 32 := 256#32
  let v2971 : BitVec 32 := Scalar.muli v2970 c256_i32_800
  let v2972 : BitVec 32 := Scalar.addi v2971 c0_i32_801
  let v2973 : Index := Scalar.indexCast v2972
  ![v2973.toNat]

def k0_chk31 (v44 : BitVec 32) (v46 : BitVec 32) (v2970 : BitVec 32) : Prop :=
  (∀ (k0_h3 : ¬(k0_cond3 v44 v46 = 1#1)), ∀ (r : Fin 16), ∀ a, (k0_off69 v2970 (BitVec.ofNat 32 (16 * r.val))) a + S16.size a ≤ S4096.size a)
theorem k0_off69_inb : ∀ (v44 : BitVec 32) (v46 : BitVec 32) (v2970 : BitVec 32) (k0_hw31 : k0_chk31 v44 v46 v2970), ∀ (k0_h3 : ¬(k0_cond3 v44 v46 = 1#1)), ∀ (r : Fin 16), ∀ a, (k0_off69 v2970 (BitVec.ofNat 32 (16 * r.val))) a + S16.size a ≤ S4096.size a := fun v44 v46 v2970 k0_hw31 k0_h3 r => k0_hw31 k0_h3 r

def k0_off70 (k0_t4 : Fin k0_t4_loop.trips) (c0_i32_802 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c3072_i32 : BitVec 32 := 3072#32
  let v2976 : BitVec 32 := Scalar.addi v49 c3072_i32
  let v2977 : BitVec 32 := Scalar.addi v2976 c0_i32_802
  let v2978 : Index := Scalar.indexCast v2977
  ![v2978.toNat]
def k0_off71 (v3213 : BitVec 32) (c0_i32_865 : BitVec 32) : Fin 1 → Nat :=
  let c256_i32_864 : BitVec 32 := 256#32
  let v3214 : BitVec 32 := Scalar.muli v3213 c256_i32_864
  let v3215 : BitVec 32 := Scalar.addi v3214 c0_i32_865
  let v3216 : Index := Scalar.indexCast v3215
  ![v3216.toNat]

def k0_chk32 (v44 : BitVec 32) (v46 : BitVec 32) (v3213 : BitVec 32) : Prop :=
  (∀ (k0_h3 : ¬(k0_cond3 v44 v46 = 1#1)), ∀ (r : Fin 16), ∀ a, (k0_off71 v3213 (BitVec.ofNat 32 (16 * r.val))) a + S16.size a ≤ S4096.size a)
theorem k0_off71_inb : ∀ (v44 : BitVec 32) (v46 : BitVec 32) (v3213 : BitVec 32) (k0_hw32 : k0_chk32 v44 v46 v3213), ∀ (k0_h3 : ¬(k0_cond3 v44 v46 = 1#1)), ∀ (r : Fin 16), ∀ a, (k0_off71 v3213 (BitVec.ofNat 32 (16 * r.val))) a + S16.size a ≤ S4096.size a := fun v44 v46 v3213 k0_hw32 k0_h3 r => k0_hw32 k0_h3 r

def k0_off72 (k0_t4 : Fin k0_t4_loop.trips) (c0_i32_866 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c3328_i32 : BitVec 32 := 3328#32
  let v3219 : BitVec 32 := Scalar.addi v49 c3328_i32
  let v3220 : BitVec 32 := Scalar.addi v3219 c0_i32_866
  let v3221 : Index := Scalar.indexCast v3220
  ![v3221.toNat]
def k0_off73 (v3456 : BitVec 32) (c0_i32_929 : BitVec 32) : Fin 1 → Nat :=
  let c256_i32_928 : BitVec 32 := 256#32
  let v3457 : BitVec 32 := Scalar.muli v3456 c256_i32_928
  let v3458 : BitVec 32 := Scalar.addi v3457 c0_i32_929
  let v3459 : Index := Scalar.indexCast v3458
  ![v3459.toNat]

def k0_chk33 (v44 : BitVec 32) (v46 : BitVec 32) (v3456 : BitVec 32) : Prop :=
  (∀ (k0_h3 : ¬(k0_cond3 v44 v46 = 1#1)), ∀ (r : Fin 16), ∀ a, (k0_off73 v3456 (BitVec.ofNat 32 (16 * r.val))) a + S16.size a ≤ S4096.size a)
theorem k0_off73_inb : ∀ (v44 : BitVec 32) (v46 : BitVec 32) (v3456 : BitVec 32) (k0_hw33 : k0_chk33 v44 v46 v3456), ∀ (k0_h3 : ¬(k0_cond3 v44 v46 = 1#1)), ∀ (r : Fin 16), ∀ a, (k0_off73 v3456 (BitVec.ofNat 32 (16 * r.val))) a + S16.size a ≤ S4096.size a := fun v44 v46 v3456 k0_hw33 k0_h3 r => k0_hw33 k0_h3 r

def k0_off74 (k0_t4 : Fin k0_t4_loop.trips) (c0_i32_930 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c3584_i32 : BitVec 32 := 3584#32
  let v3462 : BitVec 32 := Scalar.addi v49 c3584_i32
  let v3463 : BitVec 32 := Scalar.addi v3462 c0_i32_930
  let v3464 : Index := Scalar.indexCast v3463
  ![v3464.toNat]
def k0_off75 (v3699 : BitVec 32) (c0_i32_993 : BitVec 32) : Fin 1 → Nat :=
  let c256_i32_992 : BitVec 32 := 256#32
  let v3700 : BitVec 32 := Scalar.muli v3699 c256_i32_992
  let v3701 : BitVec 32 := Scalar.addi v3700 c0_i32_993
  let v3702 : Index := Scalar.indexCast v3701
  ![v3702.toNat]

def k0_chk34 (v44 : BitVec 32) (v46 : BitVec 32) (v3699 : BitVec 32) : Prop :=
  (∀ (k0_h3 : ¬(k0_cond3 v44 v46 = 1#1)), ∀ (r : Fin 16), ∀ a, (k0_off75 v3699 (BitVec.ofNat 32 (16 * r.val))) a + S16.size a ≤ S4096.size a)
theorem k0_off75_inb : ∀ (v44 : BitVec 32) (v46 : BitVec 32) (v3699 : BitVec 32) (k0_hw34 : k0_chk34 v44 v46 v3699), ∀ (k0_h3 : ¬(k0_cond3 v44 v46 = 1#1)), ∀ (r : Fin 16), ∀ a, (k0_off75 v3699 (BitVec.ofNat 32 (16 * r.val))) a + S16.size a ≤ S4096.size a := fun v44 v46 v3699 k0_hw34 k0_h3 r => k0_hw34 k0_h3 r

def k0_off76 (k0_t4 : Fin k0_t4_loop.trips) (c0_i32_994 : BitVec 32) : Fin 1 → Nat :=
  let c32768_i32_39 : BitVec 32 := 32768#32
  let c0_i32_29 : BitVec 32 := 0#32
  let c1_i32_31 : BitVec 32 := 1#32
  let arg11 : BitVec 32 := Scf.iv c0_i32_29 c1_i32_31 k0_t4
  let c16_i32_37 : BitVec 32 := 16#32
  let v47 : BitVec 32 := Scalar.muli arg11 c16_i32_37
  let c256_i32_38 : BitVec 32 := 256#32
  let v48 : BitVec 32 := Scalar.muli v47 c256_i32_38
  let v49 : BitVec 32 := Scalar.addi c32768_i32_39 v48
  let c3840_i32 : BitVec 32 := 3840#32
  let v3705 : BitVec 32 := Scalar.addi v49 c3840_i32
  let v3706 : BitVec 32 := Scalar.addi v3705 c0_i32_994
  let v3707 : Index := Scalar.indexCast v3706
  ![v3707.toNat]
def k0_cond4 (k0_t2 : Fin k0_t2_loop.trips) : BitVec 1 :=
  let c0_i32_9 : BitVec 32 := 0#32
  let c1_i32_10 : BitVec 32 := 1#32
  let arg10 : BitVec 32 := Scf.iv c0_i32_9 c1_i32_10 k0_t2
  let c3_i32_33 : BitVec 32 := 3#32
  let v34 : BitVec 1 := Scalar.cmpi .slt arg10 c3_i32_33
  let v35 : BitVec 32 := Scalar.extui v34
  let c0_i32_34 : BitVec 32 := 0#32
  let v36 : BitVec 1 := Scalar.cmpi .ne v35 c0_i32_34
  v36

def k0_off77 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  let c0_i32_9 : BitVec 32 := 0#32
  let c1_i32_10 : BitVec 32 := 1#32
  let arg10 : BitVec 32 := Scf.iv c0_i32_9 c1_i32_10 k0_t2
  let c2_i32_22 : BitVec 32 := 2#32
  let v27 : BitVec 32 := Scalar.muli arg10 c2_i32_22
  let c1_i32_23 : BitVec 32 := 1#32
  let v28 : BitVec 32 := Scalar.addi v27 c1_i32_23
  let c2_i32_35 : BitVec 32 := 2#32
  let v37 : BitVec 32 := Scalar.addi v28 c2_i32_35
  let c128_i32_36 : BitVec 32 := 128#32
  let v38 : BitVec 32 := Scalar.muli v37 c128_i32_36
  let v39 : BitVec 32 := Scalar.addi v2 v38
  let c256_i32_37 : BitVec 32 := 256#32
  let v40 : BitVec 32 := Scalar.muli v39 c256_i32_37
  ![v40.toNat]
def k0_off78 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r1 : BitVec 32 := 0#32
  ![v1.toNat, 0]
abbrev grid1 : Pipeline.Grid := .none

abbrev stage1_0 : Fin 1 → Memref sig .tc .vmem S32x16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x256 : Shape := ⟨2, ![32768, 256]⟩
abbrev S32768 : Shape := ⟨1, ![32768]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x32768x1 : Shape := ⟨3, ![1, 32768, 1]⟩
abbrev S16 : Shape := ⟨1, ![16]⟩
abbrev S16x1x1 : Shape := ⟨3, ![16, 1, 1]⟩
abbrev S16x32768x1 : Shape := ⟨3, ![16, 32768, 1]⟩
abbrev S1x32768x256 : Shape := ⟨3, ![1, 32768, 256]⟩
abbrev S_ : Shape := ⟨0, ![]⟩
abbrev S16x32768x256 : Shape := ⟨3, ![16, 32768, 256]⟩
abbrev S16x256 : Shape := ⟨2, ![16, 256]⟩
abbrev S1x256 : Shape := ⟨2, ![1, 256]⟩
abbrev S256x128 : Shape := ⟨2, ![256, 128]⟩
abbrev S16x128 : Shape := ⟨2, ![16, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S1x32768x1, .i32⟩
  | .hbm, ⟨8, _⟩ => ⟨S16, .i32⟩
  | .hbm, ⟨9, _⟩ => ⟨S16x1x1, .i32⟩
  | .hbm, ⟨10, _⟩ => ⟨S16x32768x1, .i32⟩
  | .hbm, ⟨11, _⟩ => ⟨S16x32768x1, .i32⟩
  | .hbm, ⟨12, _⟩ => ⟨S16x32768x1, .i1⟩
  | .hbm, ⟨13, _⟩ => ⟨S1x32768x256, .f32⟩
  | .hbm, ⟨14, _⟩ => ⟨S_, .f32⟩
  | .hbm, ⟨15, _⟩ => ⟨S_, .f32⟩
  | .hbm, ⟨16, _⟩ => ⟨S16x32768x256, .i1⟩
  | .hbm, ⟨17, _⟩ => ⟨S16x32768x256, .f32⟩
  | .hbm, ⟨18, _⟩ => ⟨S16x32768x256, .f32⟩
  | .hbm, ⟨19, _⟩ => ⟨S16x32768x256, .f32⟩
  | .hbm, ⟨20, _⟩ => ⟨S_, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S256x256, .f32⟩
  | .hbm, ⟨26, _⟩ => ⟨S16x256, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .i32⟩
  | .hbm, ⟨33, _⟩ => ⟨S_, .f32⟩
  | .hbm, ⟨34, _⟩ => ⟨S256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S16x256, .f32⟩
  | .hbm, ⟨40, _⟩ => ⟨S16x256, .f32⟩
  | .hbm, ⟨41, _⟩ => ⟨S16x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S1x256, .f32⟩
  | .hbm, ⟨56, _⟩ => ⟨S16x256, .f32⟩
  | .hbm, ⟨57, _⟩ => ⟨S16x256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S1x256, .f32⟩
  | .hbm, ⟨63, _⟩ => ⟨S16x256, .f32⟩
  | .hbm, ⟨64, _⟩ => ⟨S16x256, .f32⟩
  | .hbm, ⟨65, _⟩ => ⟨S1x256, .f32⟩
  | .hbm, ⟨66, _⟩ => ⟨S16x256, .f32⟩
  | .hbm, ⟨67, _⟩ => ⟨S16x256, .f32⟩
  | .hbm, ⟨68, _⟩ => ⟨S1x256, .f32⟩
  | .hbm, ⟨69, _⟩ => ⟨S16x256, .f32⟩
  | .hbm, ⟨70, _⟩ => ⟨S16x256, .f32⟩
  | .hbm, ⟨71, _⟩ => ⟨S_, .f32⟩
  | .hbm, ⟨72, _⟩ => ⟨S16x256, .f32⟩
  | .hbm, ⟨73, _⟩ => ⟨S16x256, .f32⟩
  | .hbm, ⟨74, _⟩ => ⟨S256x128, .f32⟩
  | .hbm, ⟨75, _⟩ => ⟨S16x128, .f32⟩
  | .hbm, ⟨76, _⟩ => ⟨S1x128, .f32⟩
  | .hbm, ⟨77, _⟩ => ⟨S16x128, .f32⟩
  | .hbm, ⟨78, _⟩ => ⟨S16x128, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_cst_1 : Ref sig .tc := ⟨.hbm, 43, rfl⟩
abbrev main_call1_v8 : Ref sig .tc := ⟨.hbm, 44, rfl⟩
abbrev main_call1_cst_2 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_cst_3 : Ref sig .tc := ⟨.hbm, 49, rfl⟩
abbrev main_call1_v12 : Ref sig .tc := ⟨.hbm, 50, rfl⟩
abbrev main_call1_cst_4 : Ref sig .tc := ⟨.hbm, 51, rfl⟩
abbrev main_call1_call0_v0 : Ref sig .tc := ⟨.hbm, 52, rfl⟩
abbrev main_call1_call0_v1 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_4 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_call2_cst : Ref sig .tc := ⟨.hbm, 71, rfl⟩
abbrev main_call2_v0 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩

abbrev nD : Nat := 1
abbrev τ : Topo := Topo.v7x

variable {F : FTy → Type} [FloatOps F]
-- ==== Proof.Ids.lean ====
/-
  What the precondition `sorted_ids` says of the segment words: each is below 16, and they ascend.
-/
module

public import proofs.«01_k».proof.Pre_sorted_ids
public import proofs.«01_k».proof.Proof.Gen.Pre_sorted_ids
public import Idealize.ShloMosaic.Lib.ReduceAll
public import Idealize.ShloMosaic.Lib.Affine
public import Idealize.ShloMosaic.Lib.Pointwise

@[expose] public section

noncomputable section

namespace Cert.Ids

open Idealize.ShloMosaic Cert.Pre_sorted_ids

variable {F : FTy → Type} [FloatOps F]

/-- A word that is not negative is its natural number. -/
theorem toInt_of_nonneg (v : BitVec 32) (h : 0 ≤ v.toInt) : v.toInt = (v.toNat : ℤ) := by
  rw [BitVec.toInt_eq_toNat_cond] at h ⊢
  split at h
  · rw [if_pos ‹_›]
  · have := v.isLt; omega

variable {x : FVec F S32768x256 .f32} {j : IVec S32768 32} {w : FVec F S256x256 .f32} {g b : FVec F S256 .f32}
  {w2 : FVec F S128x256 .f32} {b2 : FVec F S128 .f32}

/-- The three tests of the precondition, index by index. -/
theorem tests_of_pre (h : Cert.Pre_sorted_ids.fn (F := F) x j w g b w2 b2 = fun _ => 1#1) :
    (∀ i, 0 ≤ (j i).toInt) ∧ (∀ i, (j i).toInt < 16)
      ∧ ∀ i : S32767.Idx, (extractStridedSlice S32767 ![0] j Facts.slices_S32768_S32767_0 i).toInt
          ≤ (extractStridedSlice S32767 ![1] j Facts.slices_S32768_S32767_1 i).toInt := by
  haveI : Subsingleton S_.Idx := ⟨fun a b => funext fun k => k.elim0⟩
  have e := congrFun h (fun k => k.elim0)
  dsimp only [Cert.Pre_sorted_ids.fn] at e
  obtain ⟨e12, e3⟩ := IntOp.andi_eq_one.1 e
  obtain ⟨e1, e2⟩ := IntOp.andi_eq_one.1 e12
  exact ⟨fun i => IntOp.cmpi_sge.1 (Host.reduce_andi_all _ _ _ _ _ e1 i), fun i => IntOp.cmpi_slt.1 (Host.reduce_andi_all _ _ _ _ _ e2 i),
    fun i => IntOp.cmpi_sle.1 (Host.reduce_andi_all _ _ _ _ _ e3 i)⟩

/-- Every segment word is below 16. -/
theorem lt_of_pre (h : Cert.Pre_sorted_ids.fn (F := F) x j w g b w2 b2 = fun _ => 1#1) (i : S32768.Idx) : (j i).toNat < 16 := by
  obtain ⟨h0, h1, -⟩ := tests_of_pre h
  have a := h0 i
  have c := h1 i
  rw [toInt_of_nonneg _ a] at c
  omega

/-- Consecutive segment words ascend. -/
theorem step_of_pre (h : Cert.Pre_sorted_ids.fn (F := F) x j w g b w2 b2 = fun _ => 1#1) (n : ℕ) (hn : n + 1 < 32768) :
    (j (ix1 ⟨n, by omega⟩)).toNat ≤ (j (ix1 ⟨n + 1, hn⟩)).toNat := by
  obtain ⟨h0, -, h2⟩ := tests_of_pre h
  have a := h2 (ix1 ⟨n, by omega⟩)
  have e0 : extractStridedSlice S32767 ![0] j Facts.slices_S32768_S32767_0 (ix1 ⟨n, by omega⟩) = j (ix1 ⟨n, by omega⟩) := by
    unfold extractStridedSlice
    congr 1
    funext k
    fin_cases k
    exact Fin.ext (by simp)
  have e1 : extractStridedSlice S32767 ![1] j Facts.slices_S32768_S32767_1 (ix1 ⟨n, by omega⟩) = j (ix1 ⟨n + 1, hn⟩) := by
    unfold extractStridedSlice
    congr 1
    funext k
    fin_cases k
    exact Fin.ext (by simp; omega)
  rw [e0, e1, toInt_of_nonneg _ (h0 _), toInt_of_nonneg _ (h0 _)] at a
  omega

end Cert.Ids

end
-- ==== Proof.Ideal.Walk.lean ====
/-
  The maxima of a group of sixteen rows, as a program over its rows and columns: what the kernel's
  conditional does in its two branches, written once for both halves of the staging buffer.
-/
module

public import proofs.«01_k».proof.Proof.Gen.KernelIdeal

@[expose] public section

noncomputable section

namespace Cert.KernelIdeal.Walk

open Idealize.ShloMosaic Idealize.SL.Sem
open Facts₀ Facts

variable {F : FTy → Type} [FloatOps F]

/-- The programs of the tile at grid point `i`. -/
abbrev TileProg (F : FTy → Type) (i : grid0.Coords) (α : Type) : Type 1 :=
  Prog (TpuEff nD τ sig (Elt F) Λ₀ (.scVector ((i 0).castLE hcore0) ((i 1).castLE hsub0))) α

/-- Where the group's rows start in the staging buffer: the half's first word and sixteen rows per trip. -/
def base (c : BitVec 32) (t : ℕ) : BitVec 32 :=
  Scalar.addi c (Scalar.muli (Scalar.muli (Scf.iv 0#32 1#32 t) 16#32) 256#32)

/-- The offset of column block `c` of the row at `o` words past `b`. -/
def rowOff (b o c : BitVec 32) : Fin 1 → ℕ := ![(Scalar.indexCast (Scalar.addi (Scalar.addi b o) c)).toNat]

/-- The offset of column block `c` of the row at `b`. -/
def headOff (b c : BitVec 32) : Fin 1 → ℕ := ![(Scalar.indexCast (Scalar.addi b c)).toNat]

/-- Every row and column block of the group at `b` lies in the staging buffer. -/
def Rows (b : BitVec 32) : Prop :=
  (∀ (r j : Fin 16) (a), rowOff b (BitVec.ofNat 32 (256 * r.val)) (BitVec.ofNat 32 (16 * j.val)) a + S16.size a ≤ S65536.size a) ∧
  ∀ (j : Fin 16) (a), headOff b (BitVec.ofNat 32 (16 * j.val)) a + S16.size a ≤ S65536.size a

variable {i : grid0.Coords} {α : Type} (A : Memref sig .scVector .vmem S4096 .f32) (B : Memref sig .scVector .vmem S65536 .f32)

/-- Sixteen lanes of the accumulator, read and handed on. -/
abbrev ldA (off : Fin 1 → ℕ) (inb : ∀ a, off a + S16.size a ≤ S4096.size a) (k : Vec F S16 .f32 → TileProg F i α) : TileProg F i α :=
  .op (.load A (Rect.unit (s := S4096) off S16.size inb).toLoadRect (View.loadsAt_vmem h_S16)) k

/-- Sixteen lanes of the staging buffer, read and handed on. -/
abbrev ldB (off : Fin 1 → ℕ) (inb : ∀ a, off a + S16.size a ≤ S65536.size a) (k : Vec F S16 .f32 → TileProg F i α) : TileProg F i α :=
  .op (.load B (Rect.unit (s := S65536) off S16.size inb).toLoadRect (View.loadsAt_vmem h_S16)) k

/-- Sixteen lanes stored to the accumulator. -/
abbrev stA (off : Fin 1 → ℕ) (inb : ∀ a, off a + S16.size a ≤ S4096.size a) (v : FVec F S16 .f32) (k : TileProg F i α) : TileProg F i α :=
  .op (.store A (Rect.unit (s := S4096) off S16.size inb) v Finset.univ (View.stores_vmem_bits_univ h_S16 rfl) (.inl rfl)) fun _ => k

/-- The column blocks, in order. -/
abbrev blocks : List (Fin 16) := [0, 1, 2, 3, 4, 5, 6, 7, 8, 9, 10, 11, 12, 13, 14, 15]

/-- One column block of one row taken into the accumulator at segment `s`. -/
def maxInto (s b o : BitVec 32) (j : Fin 16)
    (hs : ∀ (j : Fin 16) (a), k0_off8 s (BitVec.ofNat 32 (16 * j.val)) a + S16.size a ≤ S4096.size a)
    (hb : ∀ (j : Fin 16) (a), rowOff b o (BitVec.ofNat 32 (16 * j.val)) a + S16.size a ≤ S65536.size a)
    (k : TileProg F i α) : TileProg F i α :=
  ldA A (k0_off8 s (BitVec.ofNat 32 (16 * j.val))) (hs j) fun cur =>
  ldB B (rowOff b o (BitVec.ofNat 32 (16 * j.val))) (hb j) fun row =>
  ldA A (k0_off8 s (BitVec.ofNat 32 (16 * j.val))) (hs j) fun _ =>
  stA A (k0_off8 s (BitVec.ofNat 32 (16 * j.val))) (hs j)
    (shapeCast S16 (maximumf (shapeCast S16 cur shapeCasts_S16_S16) (shapeCast S16 row shapeCasts_S16_S16)) shapeCasts_S16_S16) k

/-- The listed column blocks of one row taken into the accumulator at segment `s`. -/
def rowInto (s b o : BitVec 32)
    (hs : ∀ (j : Fin 16) (a), k0_off8 s (BitVec.ofNat 32 (16 * j.val)) a + S16.size a ≤ S4096.size a)
    (hb : ∀ (j : Fin 16) (a), rowOff b o (BitVec.ofNat 32 (16 * j.val)) a + S16.size a ≤ S65536.size a)
    (k : TileProg F i α) : List (Fin 16) → TileProg F i α
  | [] => k
  | j :: js => maxInto A B s b o j hs hb (rowInto s b o hs hb k js)

/-- The word of lane `r`. -/
def idAt (ids : IVec S16 32) (r : Fin 16) (h : S16.Slices ![r.val] S1) : BitVec 32 :=
  extractAt ![0] (extractStridedSlice S1 ![r.val] ids h) inpos_S1_p0

theorem slices_lane : ∀ r : Fin 16, S16.Slices ![r.val] S1 := by decide

/-- The listed rows of a group, each into the accumulator at its own segment. -/
def rowsInto (ids : IVec S16 32) (u v b : BitVec 32) (hc : ¬(k0_cond1 u v = 1#1)) (hb : Rows b) (k : TileProg F i α) :
    List (Fin 16) → TileProg F i α
  | [] => k
  | r :: rs =>
    .op (TpuEff.assume (k0_chk2 u v (idAt ids r (slices_lane r))) (k0_chk2.dec u v (idAt ids r (slices_lane r)))) fun hs =>
    rowInto A B (idAt ids r (slices_lane r)) b (BitVec.ofNat 32 (256 * r.val)) (hs.down hc) (hb.1 r)
      (rowsInto ids u v b hc hb k rs) blocks

/-- The maximum, from `m` on, of column block `j` of the listed rows after the group's first. -/
def rowsMax (b : BitVec 32) (hb : Rows b) (j : Fin 16) (k : FVec F S16 .f32 → TileProg F i α) :
    List (Fin 16) → FVec F S16 .f32 → TileProg F i α
  | [], m => k m
  | r :: rs, m =>
    ldB B (rowOff b (BitVec.ofNat 32 (256 * r.val)) (BitVec.ofNat 32 (16 * j.val))) (hb.1 r j) fun row =>
    rowsMax b hb j k rs (maximumf m (shapeCast S16 row shapeCasts_S16_S16))

/-- The rows of a group after its first, in order. -/
abbrev later : List (Fin 16) := [1, 2, 3, 4, 5, 6, 7, 8, 9, 10, 11, 12, 13, 14, 15]

/-- Column block `j` of a group of one segment `s`: its rows' maximum into the accumulator. -/
def groupCol (s b : BitVec 32) (j : Fin 16)
    (hs : ∀ (j : Fin 16) (a), k0_off7 s (BitVec.ofNat 32 (16 * j.val)) a + S16.size a ≤ S4096.size a) (hb : Rows b)
    (k : TileProg F i α) : TileProg F i α :=
  ldB B (headOff b (BitVec.ofNat 32 (16 * j.val))) (hb.2 j) fun row =>
  rowsMax B b hb j (fun m =>
    ldA A (k0_off7 s (BitVec.ofNat 32 (16 * j.val))) (hs j) fun cur =>
    ldA A (k0_off7 s (BitVec.ofNat 32 (16 * j.val))) (hs j) fun _ =>
    stA A (k0_off7 s (BitVec.ofNat 32 (16 * j.val))) (hs j)
      (shapeCast S16 (maximumf (shapeCast S16 cur shapeCasts_S16_S16) m) shapeCasts_S16_S16) k) later (shapeCast S16 row shapeCasts_S16_S16)

/-- The listed column blocks of a group of one segment. -/
def groupCols (s b : BitVec 32)
    (hs : ∀ (j : Fin 16) (a), k0_off7 s (BitVec.ofNat 32 (16 * j.val)) a + S16.size a ≤ S4096.size a) (hb : Rows b)
    (k : TileProg F i α) : List (Fin 16) → TileProg F i α
  | [] => k
  | j :: js => groupCol A B s b j hs hb (groupCols s b hs hb k js)

/-- A group of sixteen rows whose words are `ids`: of one segment where the first word is the last, else each row its own. -/
def groupOf (ids : IVec S16 32) (b : BitVec 32) (hb : Rows b) : TileProg F i PUnit.{1} :=
  .op (TpuEff.assume (k0_chk1 (idAt ids 0 (slices_lane 0)) (idAt ids 15 (slices_lane 15)))
      (k0_chk1.dec (idAt ids 0 (slices_lane 0)) (idAt ids 15 (slices_lane 15)))) fun hs =>
  if hc : k0_cond1 (idAt ids 0 (slices_lane 0)) (idAt ids 15 (slices_lane 15)) = 1#1 then
    groupCols A B (idAt ids 0 (slices_lane 0)) b (hs.down hc) hb (.ret ⟨⟩) blocks
  else
    rowsInto A B ids (idAt ids 0 (slices_lane 0)) (idAt ids 15 (slices_lane 15)) b hc hb (.ret ⟨⟩) blocks

variable (X : Memref sig .scVector .hbm S8388608 .f32) (J : Memref sig .scVector .hbm S32768 .i32) (O : Memref sig .scVector .hbm S32x4096 .f32)
  (I : Memref sig .scVector .vmem S1024 .i32)

/-- A group whose words are at `off` of the tile's words. -/
def group (off : Fin 1 → ℕ) (hi : ∀ a, off a + S16.size a ≤ S1024.size a) (b : BitVec 32) (hb : Rows b) : TileProg F i PUnit.{1} :=
  .op (.load I (Rect.unit (s := S1024) off S16.size hi).toLoadRect (View.loadsAt_vmem h_S16)) fun ids =>
  groupOf A B (shapeCast S16 ids shapeCasts_S16_S16) b hb

/-- Half of the staging buffer, from word `o` on. -/
abbrev slot (o : ℕ) (ho : ∀ a, (![o] : Fin 1 → ℕ) a + S32768.size a ≤ S65536.size a) : Memref sig .scVector .vmem S32768 .f32 :=
  B.slice (Rect.unit (s := S65536) ![o] S32768.size ho) (fun _ => rfl)

/-- 128 rows of the features, from the word at `off` on. -/
abbrev window (off : Fin 1 → ℕ) (hw : ∀ a, off a + S32768.size a ≤ S8388608.size a) : Memref sig .scVector .hbm S32768 .f32 :=
  X.slice (Rect.unit (s := S8388608) off S32768.size hw) (fun _ => rfl)

/-- The fetch of 128 rows into a half. -/
def fetch (o : ℕ) (ho : ∀ a, (![o] : Fin 1 → ℕ) a + S32768.size a ≤ S65536.size a)
    (off : Fin 1 → ℕ) (hw : ∀ a, off a + S32768.size a ≤ S8388608.size a) (sem : DmaSems sig S_) (k : TileProg F i α) : TileProg F i α :=
  .op (.enqueueDma (window X off hw) (.here (slot B o ho)) (.dma sem.sem) (View.wordExact_bits rfl) (View.wordExact_bits rfl)
    ⟨Or.inl rfl, trivial⟩) fun _ => k

/-- One half of a pair of chunks: wait for the half's rows, take its eight groups, and fetch the next rows into it if there are any. -/
def half (o : ℕ) (ho : ∀ a, (![o] : Fin 1 → ℕ) a + S32768.size a ≤ S65536.size a) (sem : DmaSems sig S_)
    (offI : Fin k0_t3_loop.trips → Fin 1 → ℕ) (hi : ∀ t a, offI t a + S16.size a ≤ S1024.size a)
    (hb : ∀ t : Fin k0_t3_loop.trips, Rows (base (BitVec.ofNat 32 o) t)) (c : BitVec 1)
    (off : Fin 1 → ℕ) (hw : c = 1#1 → ∀ a, off a + S32768.size a ≤ S8388608.size a)
    (k : TileProg F i PUnit.{1}) : TileProg F i PUnit.{1} :=
  .op (.waitDma2 sem.sem (window X ![0] inb_S8388608_S32768_0) (slot B o ho) (View.wordExact_bits rfl) (View.wordExact_bits rfl)) fun _ =>
  (Scf.Loop.for k0_t3_loop k0_t3_ok ⟨⟩ fun t _ => group A B I (offI t) (hi t) (base (BitVec.ofNat 32 o) t) (hb t)) >>= fun _ =>
  if h : c = 1#1 then fetch B X o ho off (hw h) sem k else k

/-- The tile's words of the segment ids, as the tile addresses them. -/
abbrev words (i : grid0.Coords) : Memref sig .scVector .hbm S1024 .i32 :=
  J.slice (Rect.unit (s := S32768) (k0_off1 i) S1024.size (k0_off1_inb i)) (fun _ => rfl)

/-- The tile's row of the partial maxima, as the tile addresses it. -/
abbrev outRow (i : grid0.Coords) : Memref sig .scVector .hbm S4096 .f32 :=
  (O.slice (Rect.unit (s := S32x4096) (k0_off78 i) S1x4096.size (k0_off78_inb i)) (fun _ => rfl)).squeeze S4096 squeezes_S1x4096_S4096

variable (hI : I.IsWhole) (hA : A.IsWhole) (s₁ s₂ r₀ r₁ : DmaSems sig S_)
  (hb₁ : ∀ t : Fin k0_t3_loop.trips, Rows (base (BitVec.ofNat 32 0) t)) (hb₂ : ∀ t : Fin k0_t3_loop.trips, Rows (base (BitVec.ofNat 32 32768) t))

/-- The accumulator zeroed. -/
def zeros : TileProg F i PUnit.{1} :=
  Scf.Loop.for k0_t1_loop k0_t1_ok ⟨⟩ fun t _ =>
    ldA A (k0_off2 t) (k0_off2_inb t) fun _ =>
    stA A (k0_off2 t) (k0_off2_inb t) (shapeCast S16 (broadcast S16 (Scalar.ofBits .f32 0x00000000#32)) shapeCasts_S16_S16) (.ret ⟨⟩)

/-- The four pairs of chunks. -/
def pairs : TileProg F i PUnit.{1} :=
  Scf.Loop.for k0_t2_loop k0_t2_ok ⟨⟩ fun n _ =>
    half A B X I 0 inb_S65536_S32768_0 s₁ (k0_off4 n) (k0_off4_inb n) hb₁ (k0_cond2 n) (k0_off40 i n) (k0_off40_inb i n) <|
    half A B X I 32768 inb_S65536_S32768_32768 s₂ (k0_off41 n) (k0_off41_inb n) hb₂ (k0_cond4 n) (k0_off77 i n) (k0_off77_inb i n) <|
    .ret ⟨⟩

/-- The accumulator's way out begun. -/
def send : TileProg F i PUnit.{1} :=
  .op (.enqueueDma A (.here (outRow O i)) (.dma r₁.sem) hA.wordExact ((View.wordExact_bits rfl).reshape _ _) ⟨Or.inl rfl, trivial⟩) fun _ => .ret ⟨⟩

/-- The tile's program but for its last wait: its words in, the accumulator zeroed, the two halves' first rows fetched,
    the four pairs of chunks, the accumulator on its way out. -/
def most : TileProg F i PUnit.{1} :=
  .op (.enqueueDma (words J i) (.here I) (.dma r₀.sem) (View.wordExact_bits rfl) hI.wordExact ⟨Or.inl rfl, trivial⟩) fun _ =>
  .op (.waitDma2 r₀.sem (words J i) I (View.wordExact_bits rfl) hI.wordExact) fun _ =>
  zeros A >>= fun _ =>
  fetch B X 0 inb_S65536_S32768_0 (k0_off3 i 0#32) (k0_off3_inb i 0) s₁ <|
  fetch B X 32768 inb_S65536_S32768_32768 (k0_off3 i 128#32) (k0_off3_inb i 1) s₂ <|
  pairs A B X I s₁ s₂ hb₁ hb₂ >>= fun _ =>
  send A O hA r₁

/-- The tile's program. -/
def tile : TileProg F i PUnit.{1} :=
  most A B X J O I hI hA s₁ s₂ r₀ r₁ hb₁ hb₂ >>= fun _ =>
  .op (.waitDma2 r₁.sem A (outRow O i) hA.wordExact ((View.wordExact_bits rfl).reshape _ _)) fun _ => .ret ⟨⟩

set_option maxRecDepth 100000 in
set_option maxHeartbeats 0 in
/-- The kernel's body is the tile's program. -/
theorem body_eq (hX : X.IsWhole) (hJ : J.IsWhole) (hO : O.IsWhole) (hB : B.IsWhole) :
    cc0__sc_body (F := F) i X hX J hJ O hO B hB I hI A hA s₁ s₂ r₀ r₁ = tile A B X J O I hI hA s₁ s₂ r₀ r₁ hb₁ hb₂ := rfl

end Cert.KernelIdeal.Walk
end
-- ==== Proof.Ideal.Max.lean ====
/-
  What the tile's steps do to its accumulator: the maxima of rows and of groups of rows as functions on
  words, and each program of `Walk.lean` run against them.
-/
module

public import proofs.«01_k».proof.Proof.Ideal.Walk
public import Idealize.ShloMosaic.Lib.SparseCore.Quiescent
public import Idealize.ShloMosaic.Lib.SparseCore.Ops
public import Idealize.ShloMosaic.Lib.Tactic

@[expose] public section

noncomputable section

namespace Cert.KernelIdeal.Walk

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

/-! ## Offsets -/

theorem head_eq₁ : ∀ (t : Fin k0_t3_loop.trips) (j : Fin 16),
    headOff (base (BitVec.ofNat 32 0) t) (BitVec.ofNat 32 (16 * j.val)) = ![4096 * t.val + 16 * j.val] := by decide +kernel
theorem head_eq₂ : ∀ (t : Fin k0_t3_loop.trips) (j : Fin 16),
    headOff (base (BitVec.ofNat 32 32768) t) (BitVec.ofNat 32 (16 * j.val)) = ![32768 + 4096 * t.val + 16 * j.val] := by decide +kernel
theorem row_eq₁ : ∀ (t : Fin k0_t3_loop.trips) (r j : Fin 16),
    rowOff (base (BitVec.ofNat 32 0) t) (BitVec.ofNat 32 (256 * r.val)) (BitVec.ofNat 32 (16 * j.val))
      = ![4096 * t.val + 256 * r.val + 16 * j.val] := by decide +kernel
theorem row_eq₂ : ∀ (t : Fin k0_t3_loop.trips) (r j : Fin 16),
    rowOff (base (BitVec.ofNat 32 32768) t) (BitVec.ofNat 32 (256 * r.val)) (BitVec.ofNat 32 (16 * j.val))
      = ![32768 + 4096 * t.val + 256 * r.val + 16 * j.val] := by decide +kernel

/-- The group's rows are where `q` says: row `r`, column block `j` at word `q + 256 r + 16 j`. -/
structure At (b : BitVec 32) (q : ℕ) : Prop where
  row : ∀ r j : Fin 16, rowOff b (BitVec.ofNat 32 (256 * r.val)) (BitVec.ofNat 32 (16 * j.val)) = ![q + 256 * r.val + 16 * j.val]
  head : ∀ j : Fin 16, headOff b (BitVec.ofNat 32 (16 * j.val)) = ![q + 16 * j.val]

theorem at₁ (t : Fin k0_t3_loop.trips) : At (base (BitVec.ofNat 32 0) t) (4096 * t.val) := ⟨row_eq₁ t, head_eq₁ t⟩
theorem at₂ (t : Fin k0_t3_loop.trips) : At (base (BitVec.ofNat 32 32768) t) (32768 + 4096 * t.val) := ⟨row_eq₂ t, head_eq₂ t⟩

theorem trips₃ : k0_t3_loop.trips = 8 := by decide +kernel
theorem trips₂ : k0_t2_loop.trips = 4 := by decide +kernel
theorem trips₁ : k0_t1_loop.trips = 256 := by decide +kernel

theorem At.rows {b : BitVec 32} {q : ℕ} (h : At b q) (hq : q + 4096 ≤ 65536) : Rows b := by
  refine ⟨fun r j a => ?_, fun j a => ?_⟩
  · rw [h.row]
    have := r.isLt; have := j.isLt
    have e : a = 0 := Subsingleton.elim _ _
    subst e
    show q + 256 * r.val + 16 * j.val + 16 ≤ 65536
    omega
  · rw [h.head]
    have := j.isLt
    have e : a = 0 := Subsingleton.elim _ _
    subst e
    show q + 16 * j.val + 16 ≤ 65536
    omega

theorem rows₁ (t : Fin k0_t3_loop.trips) : Rows (base (BitVec.ofNat 32 0) t) :=
  (at₁ t).rows (by have := lt_of_lt_of_eq t.isLt trips₃; omega)
theorem rows₂ (t : Fin k0_t3_loop.trips) : Rows (base (BitVec.ofNat 32 32768) t) :=
  (at₂ t).rows (by have := lt_of_lt_of_eq t.isLt trips₃; omega)

theorem seg_eq : ∀ (s j : Fin 16), k0_off8 (BitVec.ofNat 32 s.val) (BitVec.ofNat 32 (16 * j.val)) = ![256 * s.val + 16 * j.val] := by
  decide +kernel
theorem seg_eq' : ∀ (s j : Fin 16), k0_off7 (BitVec.ofNat 32 s.val) (BitVec.ofNat 32 (16 * j.val)) = ![256 * s.val + 16 * j.val] := by
  decide +kernel

theorem off8_eq {s : BitVec 32} (h : s.toNat < 16) (j : Fin 16) : k0_off8 s (BitVec.ofNat 32 (16 * j.val)) = ![256 * s.toNat + 16 * j.val] := by
  have := seg_eq ⟨s.toNat, h⟩ j
  simpa using this
theorem off7_eq {s : BitVec 32} (h : s.toNat < 16) (j : Fin 16) : k0_off7 s (BitVec.ofNat 32 (16 * j.val)) = ![256 * s.toNat + 16 * j.val] := by
  have := seg_eq' ⟨s.toNat, h⟩ j
  simpa using this

theorem seg_inb {s : ℕ} (h : s < 16) (j : Fin 16) (a : Fin 1) : (![256 * s + 16 * j.val] : Fin 1 → ℕ) a + S16.size a ≤ S4096.size a := by
  have := j.isLt
  have e : a = 0 := Subsingleton.elim _ _
  subst e
  show 256 * s + 16 * j.val + 16 ≤ 4096
  omega

theorem chk1_of {u v : BitVec 32} (h : u.toNat < 16) : k0_chk1 u v := fun _ j a => by rw [off7_eq h]; exact seg_inb h j a
theorem chk2_of {u v w : BitVec 32} (h : w.toNat < 16) : k0_chk2 u v w := fun _ j a => by rw [off8_eq h]; exact seg_inb h j a

/-- The branch for one segment is taken just where the first word is the last. -/
theorem cond1_iff {u v : BitVec 32} : k0_cond1 u v = 1#1 ↔ u = v := by
  unfold k0_cond1
  by_cases h : u = v
  · simp [Scalar.cmpi, Scalar.extui, IntOp.cmpi, h]
  · have e : (u == v) = false := by simpa using h
    simp [Scalar.cmpi, Scalar.extui, IntOp.cmpi, h, e]

/-! ## The maxima as functions on words -/

variable {F : FTy → Type} [FloatOps F]

/-- Column block `j` of the row at word `o` taken into segment `s`. -/
def colStep (g : ℕ → F .f32) (s o j : ℕ) (f : ℕ → F .f32) : ℕ → F .f32 := fun p =>
  if 256 * s + 16 * j ≤ p ∧ p < 256 * s + 16 * j + 16 then FloatOps.maximumf (f p) (g (o + (p - 256 * s))) else f p

/-- The row at word `o` taken into segment `s`. -/
def rowStep (g : ℕ → F .f32) (s o : ℕ) (f : ℕ → F .f32) : ℕ → F .f32 := fun p =>
  if p / 256 = s then FloatOps.maximumf (f p) (g (o + p % 256)) else f p

/-- The listed column blocks of a row, in order. -/
def colsStep (g : ℕ → F .f32) (s o : ℕ) : List (Fin 16) → (ℕ → F .f32) → ℕ → F .f32
  | [], f => f
  | j :: js, f => colsStep g s o js (colStep g s o j.val f)

/-- The listed rows of the group at word `q`, each into its own segment `w r`. -/
def rowsStep (g : ℕ → F .f32) (w : Fin 16 → ℕ) (q : ℕ) : List (Fin 16) → (ℕ → F .f32) → ℕ → F .f32
  | [], f => f
  | r :: rs, f => rowsStep g w q rs (rowStep g (w r) (q + 256 * r.val) f)

/-- The maximum, from `m` on, of column `p` of the listed rows of the group at word `q`. -/
def colMax (g : ℕ → F .f32) (q p : ℕ) : List (Fin 16) → F .f32 → F .f32
  | [], m => m
  | r :: rs, m => colMax g q p rs (FloatOps.maximumf m (g (q + 256 * r.val + p)))

/-- The maximum of column `p` of the group at word `q`. -/
def groupMax (g : ℕ → F .f32) (q p : ℕ) : F .f32 := colMax g q p later (g (q + p))

/-- Column block `j` of a group of one segment. -/
def gcolStep (g : ℕ → F .f32) (s q j : ℕ) (f : ℕ → F .f32) : ℕ → F .f32 := fun p =>
  if 256 * s + 16 * j ≤ p ∧ p < 256 * s + 16 * j + 16 then FloatOps.maximumf (f p) (groupMax g q (p - 256 * s)) else f p

/-- The listed column blocks of a group of one segment. -/
def gcolsStep (g : ℕ → F .f32) (s q : ℕ) : List (Fin 16) → (ℕ → F .f32) → ℕ → F .f32
  | [], f => f
  | j :: js, f => gcolsStep g s q js (gcolStep g s q j.val f)

/-- A group of one segment. -/
def oneStep (g : ℕ → F .f32) (s q : ℕ) (f : ℕ → F .f32) : ℕ → F .f32 := fun p =>
  if p / 256 = s then FloatOps.maximumf (f p) (groupMax g q (p % 256)) else f p

/-- A group whose rows' segments are `w`. -/
def groupStep (g : ℕ → F .f32) (w : Fin 16 → ℕ) (q : ℕ) (f : ℕ → F .f32) : ℕ → F .f32 :=
  if w 0 = w 15 then oneStep g (w 0) q f else rowsStep g w q blocks f

theorem groupStep_one {g : ℕ → F .f32} {w : Fin 16 → ℕ} {q : ℕ} {f : ℕ → F .f32} (h : w 0 = w 15) : groupStep g w q f = oneStep g (w 0) q f := if_pos h
theorem groupStep_rows {g : ℕ → F .f32} {w : Fin 16 → ℕ} {q : ℕ} {f : ℕ → F .f32} (h : w 0 ≠ w 15) : groupStep g w q f = rowsStep g w q blocks f := if_neg h

attribute [irreducible] groupStep

/-- A block-wise step over all sixteen blocks is the step of the whole row. -/
theorem colsStep_apply (g : ℕ → F .f32) (s o : ℕ) (p : ℕ) : ∀ (js : List (Fin 16)) (hjs : js.Nodup) (f : ℕ → F .f32),
    colsStep g s o js f p = if ∃ j ∈ js, 256 * s + 16 * j.val ≤ p ∧ p < 256 * s + 16 * j.val + 16 then FloatOps.maximumf (f p) (g (o + (p - 256 * s))) else f p
  | [], _, f => by simp [colsStep]
  | j :: js, h, f => by
    rw [List.nodup_cons] at h
    rw [colsStep, colsStep_apply g s o p js h.2]
    by_cases hj : 256 * s + 16 * j.val ≤ p ∧ p < 256 * s + 16 * j.val + 16
    · have hn : ¬ ∃ j' ∈ js, 256 * s + 16 * j'.val ≤ p ∧ p < 256 * s + 16 * j'.val + 16 := by
        rintro ⟨j', hj', h'⟩
        have : j' = j := Fin.ext (by omega)
        exact h.1 (this ▸ hj')
      rw [if_neg hn, if_pos ⟨j, List.mem_cons_self, hj⟩, colStep, if_pos hj]
    · have e : colStep g s o j.val f p = f p := by rw [colStep, if_neg hj]
      rw [e]
      congr 1
      simp only [List.mem_cons, exists_eq_or_imp, hj, false_or]

theorem gcolsStep_apply (g : ℕ → F .f32) (s q : ℕ) (p : ℕ) : ∀ (js : List (Fin 16)) (hjs : js.Nodup) (f : ℕ → F .f32),
    gcolsStep g s q js f p = if ∃ j ∈ js, 256 * s + 16 * j.val ≤ p ∧ p < 256 * s + 16 * j.val + 16 then FloatOps.maximumf (f p) (groupMax g q (p - 256 * s)) else f p
  | [], _, f => by simp [gcolsStep]
  | j :: js, h, f => by
    rw [List.nodup_cons] at h
    rw [gcolsStep, gcolsStep_apply g s q p js h.2]
    by_cases hj : 256 * s + 16 * j.val ≤ p ∧ p < 256 * s + 16 * j.val + 16
    · have hn : ¬ ∃ j' ∈ js, 256 * s + 16 * j'.val ≤ p ∧ p < 256 * s + 16 * j'.val + 16 := by
        rintro ⟨j', hj', h'⟩
        have : j' = j := Fin.ext (by omega)
        exact h.1 (this ▸ hj')
      rw [if_neg hn, if_pos ⟨j, List.mem_cons_self, hj⟩, gcolStep, if_pos hj]
    · have e : gcolStep g s q j.val f p = f p := by rw [gcolStep, if_neg hj]
      rw [e]
      congr 1
      simp only [List.mem_cons, exists_eq_or_imp, hj, false_or]

theorem mem_blocks : ∀ j : Fin 16, j ∈ blocks := by decide
theorem nodup_blocks : blocks.Nodup := by decide

theorem blocks_iff (s p : ℕ) : (∃ j ∈ blocks, 256 * s + 16 * j.val ≤ p ∧ p < 256 * s + 16 * j.val + 16) ↔ p / 256 = s := by
  constructor
  · rintro ⟨j, -, h⟩
    have := j.isLt
    omega
  · intro h
    exact ⟨⟨(p % 256) / 16, by omega⟩, mem_blocks _, by simp only; omega⟩

theorem colsStep_eq (g : ℕ → F .f32) (s o : ℕ) (f : ℕ → F .f32) : colsStep g s o blocks f = rowStep g s o f := by
  funext p
  rw [colsStep_apply g s o p blocks nodup_blocks f, rowStep]
  by_cases h : p / 256 = s
  · rw [if_pos h, if_pos ((blocks_iff s p).2 h)]
    congr 3; omega
  · rw [if_neg h, if_neg (mt (blocks_iff s p).1 h)]

theorem gcolsStep_eq (g : ℕ → F .f32) (s q : ℕ) (f : ℕ → F .f32) : gcolsStep g s q blocks f = oneStep g s q f := by
  funext p
  rw [gcolsStep_apply g s q p blocks nodup_blocks f, oneStep]
  by_cases h : p / 256 = s
  · rw [if_pos h, if_pos ((blocks_iff s p).2 h)]
    congr 2; omega
  · rw [if_neg h, if_neg (mt (blocks_iff s p).1 h)]

end Cert.KernelIdeal.Walk
end
-- ==== Proof.Ideal.Steps.lean ====
/-
  The tile's steps run against the functions of `Max.lean`: the accumulator's words and the staging buffer's are
  held as functions on word numbers, and each program of a group of rows leaves the accumulator at the step's value.
-/
module

public import proofs.«01_k».proof.Proof.Ideal.Max
public import Idealize.ShloMosaic.Lib.Pointwise.Reshape

@[expose] public section

noncomputable section

namespace Cert.KernelIdeal.Walk

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] {U : Type} [URA U]

local notation "𝕄" => MT nD τ sig (HIx 1) (Elt F) ℕ U ℕ
local notation "aV" => (Memref.whole Cert.KernelIdeal.cc0_scratch2 : Memref Cert.KernelIdeal.sig Kind.scVector Space.vmem Cert.KernelIdeal.S4096 EltTy.f32)
local notation "bV" => (Memref.whole Cert.KernelIdeal.cc0_scratch0 : Memref Cert.KernelIdeal.sig Kind.scVector Space.vmem Cert.KernelIdeal.S65536 EltTy.f32)
local notation "iV" => (Memref.whole Cert.KernelIdeal.cc0_scratch1 : Memref Cert.KernelIdeal.sig Kind.scVector Space.vmem Cert.KernelIdeal.S1024 EltTy.i32)

/-- The thread of the tile at grid point `i`. -/
abbrev thr (d : Dev nD) (i : grid0.Coords) : Thread nD τ := V d ((i 0).castLE hcore0) ((i 1).castLE hsub0)

/-- A function on word numbers as the contents of a buffer of one axis. -/
def words1 {A : Type} {s : Shape} (h : 0 < s.rank) (f : ℕ → A) : s.Idx → A := fun x => f (x ⟨0, h⟩).val

abbrev accBuf (f : ℕ → F .f32) : S4096.Idx → Elt F .f32 := fun x => f (x 0).val
abbrev stBuf (f : ℕ → F .f32) : S65536.Idx → Elt F .f32 := fun x => f (x 0).val
abbrev idBuf (f : ℕ → BitVec 32) : S1024.Idx → Elt F .i32 := fun x => f (x 0).val

variable {d : Dev nD} {i : grid0.Coords} {α : Type}

/-- The accumulator at `f`. -/
abbrev accAt (d : Dev nD) (i : grid0.Coords) (f : ℕ → F .f32) : sProp 𝕄 := (aV).view.loc (thr d i) ↦[Finset.univ]{fullShare} accBuf f
/-- The words `S` of the staging buffer at `g`. -/
abbrev stAt (d : Dev nD) (i : grid0.Coords) (S : Finset S65536.Idx) (g : ℕ → F .f32) : sProp 𝕄 := (bV).view.loc (thr d i) ↦[S]{fullShare} stBuf g

/-- The tile's program `p` runs to `Q`. -/
abbrev run (d : Dev nD) (i : grid0.Coords) (p : TileProg F i α) (Q : α → sProp 𝕄) : sProp 𝕄 :=
  wp frame (wpE defs₀ Variants.none (thr d i) none) Set.univ p Q

theorem acc_read (off : Fin 1 → ℕ) (inb : ∀ a, off a + S16.size a ≤ S4096.size a) (n : ℕ) (hn : off = ![n]) (f : ℕ → F .f32) :
    ((aV).access (Rect.unit (s := S4096) off S16.size inb)).read (Elt F) (accBuf f) = fun x => f (n + (x 0).val) := by
  subst hn
  funext x
  show f (n + 1 * (x 0).val) = _
  rw [Nat.one_mul]

theorem st_read (off : Fin 1 → ℕ) (inb : ∀ a, off a + S16.size a ≤ S65536.size a) (n : ℕ) (hn : off = ![n]) (f : ℕ → F .f32) :
    ((bV).access (Rect.unit (s := S65536) off S16.size inb)).read (Elt F) (stBuf f) = fun x => f (n + (x 0).val) := by
  subst hn
  funext x
  show f (n + 1 * (x 0).val) = _
  rw [Nat.one_mul]

theorem id_read (off : Fin 1 → ℕ) (inb : ∀ a, off a + S16.size a ≤ S1024.size a) (n : ℕ) (hn : off = ![n]) (f : ℕ → BitVec 32) :
    ((iV).access (Rect.unit (s := S1024) off S16.size inb)).read (Elt F) (idBuf (F := F) f) = fun x => f (n + (x 0).val) := by
  subst hn
  funext x
  show f (n + 1 * (x 0).val) = _
  rw [Nat.one_mul]

theorem acc_write (off : Fin 1 → ℕ) (inb : ∀ a, off a + S16.size a ≤ S4096.size a) (n : ℕ) (hn : off = ![n]) (f h : ℕ → F .f32) :
    ((aV).access (Rect.unit (s := S4096) off S16.size inb)).write (Elt F) (accBuf f) (fun x => h (n + (x 0).val)) Finset.univ
      = accBuf (fun p => if n ≤ p ∧ p < n + 16 then h p else f p) := by
  subst hn
  funext y
  by_cases hy : n ≤ (y 0).val ∧ (y 0).val < n + 16
  · let ix : S16.Idx := fun a => ⟨(y 0).val - n, by
      have ea : a = (0 : Fin 1) := Subsingleton.elim (α := Fin 1) _ _
      subst ea
      show (y 0).val - n < 16
      omega⟩
    have e : y = ((aV).access (Rect.unit (s := S4096) ![n] S16.size inb)).emb (ix : S16.Idx) := by
      funext a
      have ea : a = (0 : Fin 1) := Subsingleton.elim (α := Fin 1) _ _
      subst ea
      exact Fin.ext (by show (y 0).val = n + 1 * ((y 0).val - n); omega)
    rw [e, View.write_emb_of_mem _ _ (Finset.mem_univ _), ← e]
    show h (n + ((y 0).val - n)) = if n ≤ (y 0).val ∧ (y 0).val < n + 16 then h (y 0).val else f (y 0).val
    rw [if_pos hy]; congr 1; omega
  · rw [View.write_of_not_mem]
    · show f (y 0).val = if n ≤ (y 0).val ∧ (y 0).val < n + 16 then h (y 0).val else f (y 0).val
      rw [if_neg hy]
    · rw [View.setOn_univ]
      intro hm
      rw [View.set_slice_whole, Rect.mem_set_unit] at hm
      exact hy (hm 0)

/-- Sixteen lanes of the accumulator read. -/
theorem ldA_wp {off : Fin 1 → ℕ} {inb : ∀ a, off a + S16.size a ≤ S4096.size a} {n : ℕ} (hn : off = ![n]) {f : ℕ → F .f32}
    {k : Vec F S16 .f32 → TileProg F i α} {R : sProp 𝕄} {Q : α → sProp 𝕄} (H : iprop(R ∗ accAt d i f) ⊢ run d i (k fun x => f (n + (x 0).val)) Q) :
    iprop(R ∗ accAt d i f) ⊢ run d i (ldA aV off inb k) Q := by
  have H' : iprop(R ∗ accAt d i f) ⊢ run d i (k (((aV).access (Rect.unit (s := S4096) off S16.size inb)).read (Elt F) (accBuf f))) Q :=
    Eq.mpr (congrArg (fun v => iprop(R ∗ accAt d i f) ⊢ run d i (k v) Q) (acc_read off inb n hn f)) H
  iintro ⟨HR, HA⟩
  iapply (wp_load Variants.none (thr d i) none Set.univ (m := aV) (r := (Rect.unit (s := S4096) off S16.size inb).toLoadRect) (S := Finset.univ)
    (f := accBuf f) (q := fullShare) (Finset.subset_univ _)) $$ HA
  iintro HA
  iapply H'
  isplitl [HR] <;> iassumption

/-- Sixteen lanes of the staging buffer read. -/
theorem ldB_wp {off : Fin 1 → ℕ} {inb : ∀ a, off a + S16.size a ≤ S65536.size a} {n : ℕ} (hn : off = ![n]) {S : Finset S65536.Idx}
    (hS : ∀ x : S65536.Idx, n ≤ (x 0).val → (x 0).val < n + 16 → x ∈ S) {g f : ℕ → F .f32}
    {k : Vec F S16 .f32 → TileProg F i α} {R : sProp 𝕄} {Q : α → sProp 𝕄} (H : iprop(R ∗ accAt d i f ∗ stAt d i S g) ⊢ run d i (k fun x => g (n + (x 0).val)) Q) :
    iprop(R ∗ accAt d i f ∗ stAt d i S g) ⊢ run d i (ldB bV off inb k) Q := by
  have H' : iprop(R ∗ accAt d i f ∗ stAt d i S g) ⊢ run d i (k (((bV).access (Rect.unit (s := S65536) off S16.size inb)).read (Elt F) (stBuf g))) Q :=
    Eq.mpr (congrArg (fun v => iprop(R ∗ accAt d i f ∗ stAt d i S g) ⊢ run d i (k v) Q) (st_read off inb n hn g)) H
  iintro ⟨HR, HA, HB⟩
  iapply (wp_load Variants.none (thr d i) none Set.univ (m := bV) (r := (Rect.unit (s := S65536) off S16.size inb).toLoadRect) (S := S)
    (f := stBuf g) (q := fullShare) (by
    intro x hx
    replace hx : x ∈ ((bV).access (Rect.unit (s := S65536) off S16.size inb)).set := by rw [View.set_slice]; exact hx
    rw [View.set_slice_whole, Rect.mem_set_unit] at hx
    subst hn
    exact hS x (hx 0).1 (hx 0).2)) $$ HB
  iintro HB
  iapply H'
  isplitl [HR]; · iassumption
  isplitl [HA] <;> iassumption

/-- Sixteen lanes stored to the accumulator. -/
theorem stA_wp {off : Fin 1 → ℕ} {inb : ∀ a, off a + S16.size a ≤ S4096.size a} {n : ℕ} (hn : off = ![n]) {f h : ℕ → F .f32} {v : FVec F S16 .f32}
    (hv : v = fun x => h (n + (x 0).val)) {k : TileProg F i α} {R : sProp 𝕄} {Q : α → sProp 𝕄}
    (H : iprop(R ∗ accAt d i fun p => if n ≤ p ∧ p < n + 16 then h p else f p) ⊢ run d i k Q) :
    iprop(R ∗ accAt d i f) ⊢ run d i (stA aV off inb v k) Q := by
  subst hv
  have H' : iprop(R ∗ ((aV).view.loc (thr d i) ↦[Finset.univ]{fullShare}
      ((aV).access (Rect.unit (s := S4096) off S16.size inb)).write (Elt F) (accBuf f) (fun x => h (n + (x 0).val)) Finset.univ)) ⊢ run d i k Q :=
    Eq.mpr (congrArg (fun v => iprop(R ∗ ((aV).view.loc (thr d i) ↦[Finset.univ]{fullShare} v)) ⊢ run d i k Q) (acc_write off inb n hn f h)) H
  iintro ⟨HR, HA⟩
  iapply (wp_store Variants.none (thr d i) none Set.univ (m := aV) (r := Rect.unit (s := S4096) off S16.size inb) (S := Finset.univ)
    (f := accBuf f) (Finset.subset_univ _)) $$ HA
  iintro HA
  iapply H'
  isplitl [HR]
  · iassumption
  · iexact HA

/-- The staging words of a group are held. -/
def Held (S : Finset S65536.Idx) (q : ℕ) : Prop := ∀ x : S65536.Idx, q ≤ (x 0).val → (x 0).val < q + 4096 → x ∈ S

/-- One column block of one row taken into the accumulator. -/
theorem maxInto_wp {s b o : BitVec 32} {j : Fin 16} {hs : ∀ (j : Fin 16) (a), k0_off8 s (BitVec.ofNat 32 (16 * j.val)) a + S16.size a ≤ S4096.size a}
    {hb : ∀ (j : Fin 16) (a), rowOff b o (BitVec.ofNat 32 (16 * j.val)) a + S16.size a ≤ S65536.size a} {n : ℕ}
    (h16 : s.toNat < 16) (hn : rowOff b o (BitVec.ofNat 32 (16 * j.val)) = ![n + 16 * j.val]) {S : Finset S65536.Idx}
    (hS : ∀ x : S65536.Idx, n ≤ (x 0).val → (x 0).val < n + 256 → x ∈ S) {g f : ℕ → F .f32} {k : TileProg F i α} {R : sProp 𝕄} {Q : α → sProp 𝕄}
    (H : iprop(R ∗ accAt d i (colStep g s.toNat n j.val f) ∗ stAt d i S g) ⊢ run d i k Q) :
    iprop(R ∗ accAt d i f ∗ stAt d i S g) ⊢ run d i (maxInto aV bV s b o j hs hb k) Q := by
  have hj := j.isLt
  have HB : iprop((R ∗ stAt d i S g) ∗ accAt d i (colStep g s.toNat n j.val f)) ⊢ run d i k Q := by
    refine BIBase.Entails.trans ?_ H
    iintro ⟨⟨HR, HS⟩, HA⟩
    isplitl [HR]; · iassumption
    isplitl [HA] <;> iassumption
  have e₁ : iprop(R ∗ accAt d i f ∗ stAt d i S g) ⊢ iprop((R ∗ stAt d i S g) ∗ accAt d i f) := by
    iintro ⟨HR, HA, HS⟩
    isplitr [HA]
    · isplitl [HR] <;> iassumption
    · iassumption
  have e₂ : iprop((R ∗ stAt d i S g) ∗ accAt d i f) ⊢ iprop(R ∗ accAt d i f ∗ stAt d i S g) := by
    iintro ⟨⟨HR, HS⟩, HA⟩
    isplitl [HR]; · iassumption
    isplitl [HA] <;> iassumption
  refine e₁.trans (ldA_wp (off8_eq h16 j) (e₂.trans ?_))
  refine ldB_wp hn (fun x h₁ h₂ => hS x (by omega) (by omega)) (e₁.trans ?_)
  refine ldA_wp (off8_eq h16 j) ?_
  refine stA_wp (off8_eq h16 j) (h := fun p => FloatOps.maximumf (f p) (g (n + (p - 256 * s.toNat)))) ?_ HB
  rw [shapeCast_id, shapeCast_id, shapeCast_id]
  funext x
  show FloatOps.maximumf _ _ = FloatOps.maximumf _ _
  beta_reduce
  rw [show n + (256 * s.toNat + 16 * j.val + (x 0).val - 256 * s.toNat) = n + 16 * j.val + (x 0).val by omega]

/-- The listed column blocks of one row. -/
theorem rowInto_wp {s b o : BitVec 32} {hs : ∀ (j : Fin 16) (a), k0_off8 s (BitVec.ofNat 32 (16 * j.val)) a + S16.size a ≤ S4096.size a}
    {hb : ∀ (j : Fin 16) (a), rowOff b o (BitVec.ofNat 32 (16 * j.val)) a + S16.size a ≤ S65536.size a} {n : ℕ}
    (h16 : s.toNat < 16) (hn : ∀ j : Fin 16, rowOff b o (BitVec.ofNat 32 (16 * j.val)) = ![n + 16 * j.val]) {S : Finset S65536.Idx}
    (hS : ∀ x : S65536.Idx, n ≤ (x 0).val → (x 0).val < n + 256 → x ∈ S) {g : ℕ → F .f32} {k : TileProg F i α} {R : sProp 𝕄} {Q : α → sProp 𝕄} :
    ∀ (js : List (Fin 16)) (f : ℕ → F .f32), (iprop(R ∗ accAt d i (colsStep g s.toNat n js f) ∗ stAt d i S g) ⊢ run d i k Q) →
      (iprop(R ∗ accAt d i f ∗ stAt d i S g) ⊢ run d i (rowInto aV bV s b o hs hb k js) Q) := by
  intro js
  induction js with
  | nil => exact fun f H => H
  | cons j js ih => exact fun f H => maxInto_wp h16 (hn j) hS (ih _ H)

/-- The listed rows of a group, each into its own segment. -/
theorem rowsInto_wp {ids : IVec S16 32} {u v b : BitVec 32} {hc : ¬(k0_cond1 u v = 1#1)} {hb : Rows b} {q : ℕ} (hq : At b q)
    (h16 : ∀ r : Fin 16, (idAt ids r (slices_lane r)).toNat < 16) {S : Finset S65536.Idx} (hS : Held S q) {g : ℕ → F .f32}
    {k : TileProg F i α} {R : sProp 𝕄} {Q : α → sProp 𝕄} :
    ∀ (rs : List (Fin 16)) (f : ℕ → F .f32),
      (iprop(R ∗ accAt d i (rowsStep g (fun r => (idAt ids r (slices_lane r)).toNat) q rs f) ∗ stAt d i S g) ⊢ run d i k Q) →
      (iprop(R ∗ accAt d i f ∗ stAt d i S g) ⊢ run d i (rowsInto aV bV ids u v b hc hb k rs) Q) := by
  intro rs
  induction rs with
  | nil => exact fun f H => H
  | cons r rs ih =>
    intro f H
    have hr := r.isLt
    refine BIBase.Entails.trans ?_ (wp_assume Variants.none (thr d i) none Set.univ (chk2_of (h16 r)))
    refine rowInto_wp (n := q + 256 * r.val) (h16 r) (hq.row r) (fun x h₁ h₂ => hS x (by omega) (by omega)) blocks f ?_
    rw [colsStep_eq]
    exact ih _ H

/-- The maximum of a column block over the listed rows. -/
theorem rowsMax_wp {b : BitVec 32} {hb : Rows b} {q : ℕ} (hq : At b q) {j : Fin 16} {S : Finset S65536.Idx} (hS : Held S q) {g f : ℕ → F .f32}
    {k : FVec F S16 .f32 → TileProg F i α} {R : sProp 𝕄} {Q : α → sProp 𝕄} :
    ∀ (rs : List (Fin 16)) (h : ℕ → F .f32) (v : FVec F S16 .f32), (v = fun x => h (x 0).val) →
      (iprop(R ∗ accAt d i f ∗ stAt d i S g) ⊢ run d i (k fun x => colMax g q (16 * j.val + (x 0).val) rs (h (x 0).val)) Q) →
      (iprop(R ∗ accAt d i f ∗ stAt d i S g) ⊢ run d i (rowsMax bV b hb j k rs v) Q) := by
  intro rs
  induction rs with
  | nil =>
    intro h v hv H
    subst hv
    exact H
  | cons r rs ih =>
    intro h v hv H
    subst hv
    have hr := r.isLt
    have hj := j.isLt
    refine ldB_wp (hq.row r j) (fun x h₁ h₂ => hS x (by omega) (by omega)) ?_
    refine ih (fun p => FloatOps.maximumf (h p) (g (q + 256 * r.val + (16 * j.val + p)))) _ ?_ H
    rw [shapeCast_id]
    funext x
    show FloatOps.maximumf _ (g (q + 256 * r.val + 16 * j.val + (x 0).val)) = FloatOps.maximumf _ _
    beta_reduce
    rw [Nat.add_assoc (q + 256 * r.val)]

/-- One column block of a group of one segment. -/
theorem groupCol_wp {s b : BitVec 32} {j : Fin 16} {hs : ∀ (j : Fin 16) (a), k0_off7 s (BitVec.ofNat 32 (16 * j.val)) a + S16.size a ≤ S4096.size a}
    {hb : Rows b} {q : ℕ} (hq : At b q) (h16 : s.toNat < 16) {S : Finset S65536.Idx} (hS : Held S q) {g f : ℕ → F .f32} {k : TileProg F i α} {R : sProp 𝕄} {Q : α → sProp 𝕄}
    (H : iprop(R ∗ accAt d i (gcolStep g s.toNat q j.val f) ∗ stAt d i S g) ⊢ run d i k Q) :
    iprop(R ∗ accAt d i f ∗ stAt d i S g) ⊢ run d i (groupCol aV bV s b j hs hb k) Q := by
  have hj := j.isLt
  have HB : iprop((R ∗ stAt d i S g) ∗ accAt d i (gcolStep g s.toNat q j.val f)) ⊢ run d i k Q := by
    refine BIBase.Entails.trans ?_ H
    iintro ⟨⟨HR, HS⟩, HA⟩
    isplitl [HR]; · iassumption
    isplitl [HA] <;> iassumption
  have e₁ : iprop(R ∗ accAt d i f ∗ stAt d i S g) ⊢ iprop((R ∗ stAt d i S g) ∗ accAt d i f) := by
    iintro ⟨HR, HA, HS⟩
    isplitr [HA]
    · isplitl [HR] <;> iassumption
    · iassumption
  refine ldB_wp (hq.head j) (fun x h₁ h₂ => hS x (by omega) (by omega)) ?_
  rw [shapeCast_id]
  refine rowsMax_wp hq hS later (fun p => g (q + (16 * j.val + p))) _ (by funext x; beta_reduce; rw [Nat.add_assoc q]) (e₁.trans ?_)
  refine ldA_wp (off7_eq h16 j) ?_
  refine ldA_wp (off7_eq h16 j) ?_
  refine stA_wp (off7_eq h16 j) (h := fun p => FloatOps.maximumf (f p) (groupMax g q (p - 256 * s.toNat))) ?_ HB
  rw [shapeCast_id, shapeCast_id]
  funext x
  show FloatOps.maximumf _ _ = FloatOps.maximumf _ _
  beta_reduce
  rw [groupMax, show 256 * s.toNat + 16 * j.val + (x 0).val - 256 * s.toNat = 16 * j.val + (x 0).val by omega]

/-- The listed column blocks of a group of one segment. -/
theorem groupCols_wp {s b : BitVec 32} {hs : ∀ (j : Fin 16) (a), k0_off7 s (BitVec.ofNat 32 (16 * j.val)) a + S16.size a ≤ S4096.size a}
    {hb : Rows b} {q : ℕ} (hq : At b q) (h16 : s.toNat < 16) {S : Finset S65536.Idx} (hS : Held S q) {g : ℕ → F .f32} {k : TileProg F i α} {R : sProp 𝕄} {Q : α → sProp 𝕄} :
    ∀ (js : List (Fin 16)) (f : ℕ → F .f32), (iprop(R ∗ accAt d i (gcolsStep g s.toNat q js f) ∗ stAt d i S g) ⊢ run d i k Q) →
      (iprop(R ∗ accAt d i f ∗ stAt d i S g) ⊢ run d i (groupCols aV bV s b hs hb k js) Q) := by
  intro js
  induction js with
  | nil => exact fun f H => H
  | cons j js ih => exact fun f H => groupCol_wp hq h16 hS (ih _ H)

set_option maxRecDepth 20000 in
/-- A group of sixteen rows. -/
theorem groupOf_wp {ids : IVec S16 32} {b : BitVec 32} {hb : Rows b} {q : ℕ} (hq : At b q)
    (h16 : ∀ r : Fin 16, (idAt ids r (slices_lane r)).toNat < 16) {S : Finset S65536.Idx} (hS : Held S q) {g f : ℕ → F .f32}
    {R : sProp 𝕄} {Q : PUnit → sProp 𝕄}
    (H : iprop(R ∗ accAt d i (groupStep g (fun r => (idAt ids r (slices_lane r)).toNat) q f) ∗ stAt d i S g) ⊢ Q ⟨⟩) :
    iprop(R ∗ accAt d i f ∗ stAt d i S g) ⊢ run d i (groupOf aV bV ids b hb) Q := by
  have H' : iprop(R ∗ accAt d i (groupStep g (fun r => (idAt ids r (slices_lane r)).toNat) q f) ∗ stAt d i S g) ⊢ run d i (.ret ⟨⟩) Q :=
    H.trans (le_wp_ret _ _ _ _ _)
  refine BIBase.Entails.trans ?_ (wp_assume Variants.none (thr d i) none Set.univ (chk1_of (h16 0)))
  have e₁ : idAt ids 0 (slices_lane 0) = idAt ids 15 (slices_lane 15) → groupStep g (fun r => (idAt ids r (slices_lane r)).toNat) q f
      = oneStep g (idAt ids 0 (slices_lane 0)).toNat q f := fun e => groupStep_one (congrArg BitVec.toNat e)
  have e₂ : idAt ids 0 (slices_lane 0) ≠ idAt ids 15 (slices_lane 15) → groupStep g (fun r => (idAt ids r (slices_lane r)).toNat) q f
      = rowsStep g (fun r => (idAt ids r (slices_lane r)).toNat) q blocks f := fun e => groupStep_rows fun h => e (BitVec.eq_of_toNat_eq h)
  generalize hG : groupStep g (fun r => (idAt ids r (slices_lane r)).toNat) q f = G at H' e₁ e₂
  by_cases hc : k0_cond1 (idAt ids 0 (slices_lane 0)) (idAt ids 15 (slices_lane 15)) = 1#1
  · have e := e₁ (cond1_iff.1 hc)
    rw [← gcolsStep_eq] at e
    subst e
    refine Eq.mpr (congrArg (fun p => iprop(R ∗ accAt d i f ∗ stAt d i S g) ⊢ run d i p Q) (dif_pos hc)) ?_
    have h := groupCols_wp (i := i) (k := .ret PUnit.unit) (α := PUnit.{1}) (s := idAt ids 0 (slices_lane 0)) (hs := (chk1_of (v := idAt ids 15 (slices_lane 15)) (h16 0)) hc) (hb := hb) hq (h16 0) hS blocks f H'
    exact h
  · have e := e₂ (mt cond1_iff.2 hc)
    subst e
    refine Eq.mpr (congrArg (fun p => iprop(R ∗ accAt d i f ∗ stAt d i S g) ⊢ run d i p Q) (dif_neg hc)) ?_
    exact rowsInto_wp (i := i) (k := .ret PUnit.unit) (α := PUnit.{1}) hq h16 hS blocks f H'

end Cert.KernelIdeal.Walk
end
-- ==== Proof.Ideal.Tile.lean ====
/-
  The tile's transfers and its loops run against the functions of `Max.lean`: from its words of the ids, its share of the
  features and its row of the partial maxima, the tile leaves the row at the maxima of its rows by segment.
-/
module

public import proofs.«01_k».proof.Proof.Ideal.Steps

@[expose] public section

noncomputable section

namespace Cert.KernelIdeal.Walk

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers
open Facts₀ Facts

variable {F : FTy → Type} [FloatOps F] {U : Type} [URA U] [CountersIn U]

local notation "𝕄" => MT nD τ sig (HIx 1) (Elt F) ℕ U ℕ
local notation "aV" => (Memref.whole Cert.KernelIdeal.cc0_scratch2 : Memref Cert.KernelIdeal.sig Kind.scVector Space.vmem Cert.KernelIdeal.S4096 EltTy.f32)
local notation "bV" => (Memref.whole Cert.KernelIdeal.cc0_scratch0 : Memref Cert.KernelIdeal.sig Kind.scVector Space.vmem Cert.KernelIdeal.S65536 EltTy.f32)
local notation "iV" => (Memref.whole Cert.KernelIdeal.cc0_scratch1 : Memref Cert.KernelIdeal.sig Kind.scVector Space.vmem Cert.KernelIdeal.S1024 EltTy.i32)
local notation "xV" => (Memref.whole Cert.KernelIdeal.main_v0_scv : Memref Cert.KernelIdeal.sig Kind.scVector Space.hbm Cert.KernelIdeal.S8388608 EltTy.f32)
local notation "jV" => (Memref.whole Cert.KernelIdeal.main_arg1_scv : Memref Cert.KernelIdeal.sig Kind.scVector Space.hbm Cert.KernelIdeal.S32768 EltTy.i32)
local notation "oV" => (Memref.whole Cert.KernelIdeal.main_v1_scv : Memref Cert.KernelIdeal.sig Kind.scVector Space.hbm Cert.KernelIdeal.S32x4096 EltTy.f32)

/-- The words of the features and of the ids as contents of their buffers. -/
abbrev xBuf (f : ℕ → F .f32) : S8388608.Idx → Elt F .f32 := fun x => f (x 0).val
abbrev jBuf (f : ℕ → BitVec 32) : S32768.Idx → Elt F .i32 := fun x => f (x 0).val

/-- The tile's number. -/
abbrev num (i : grid0.Coords) : ℕ := 16 * (i 0).val + (i 1).val

/-- What the staging buffer holds on trip `n` of tile `w`. -/
def stage (xf : ℕ → F .f32) (w n : ℕ) : ℕ → F .f32 := fun p => xf (262144 * w + 65536 * n + p)

/-- The accumulator of tile `w` after its first `g` groups. -/
def accAfter (xf : ℕ → F .f32) (jf : ℕ → BitVec 32) (w : ℕ) : ℕ → ℕ → F .f32
  | 0 => fun _ => Scalar.ofBits .f32 0x00000000#32
  | g + 1 => groupStep (stage xf w (g / 16)) (fun r => (jf (1024 * w + 16 * g + r.val)).toNat) (4096 * (g % 16)) (accAfter xf jf w g)

theorem accAfter_zero (xf : ℕ → F .f32) (jf : ℕ → BitVec 32) (w : ℕ) : accAfter xf jf w 0 = fun _ => Scalar.ofBits .f32 0x00000000#32 := rfl
theorem accAfter_succ (xf : ℕ → F .f32) (jf : ℕ → BitVec 32) (w g : ℕ) : accAfter xf jf w (g + 1)
    = groupStep (stage xf w (g / 16)) (fun r => (jf (1024 * w + 16 * g + r.val)).toNat) (4096 * (g % 16)) (accAfter xf jf w g) := rfl

attribute [irreducible] accAfter

variable {d : Dev nD} {i : grid0.Coords} {α : Type}

/-- What a tile owes, and that it may wait: beyond `W` it has recorded local waits only. -/
def Duty (d : Dev nD) (i : grid0.Coords) (O : CellTallies nD τ sig (HIx 1)) (W : Waits sig (HIx 1)) : sProp 𝕄 :=
  iprop(MayWaits (thr d i) (default : HIx 1) O ∗ ∃ W', ⌜∀ p ∈ W', p ∈ W ∨ p.2 = none⌝ ∗ owes (thr d i) O W')

/-- The tile's words of the ids. -/
abbrev idsAt (d : Dev nD) (i : grid0.Coords) (f : ℕ → BitVec 32) : sProp 𝕄 := (iV).view.loc (thr d i) ↦[Finset.univ]{fullShare} idBuf f
/-- A share of the features' words `S`. -/
abbrev xAt (d : Dev nD) (i : grid0.Coords) (S : Finset S8388608.Idx) (q : PosShare TreeShare) (f : ℕ → F .f32) : sProp 𝕄 :=
  (xV).view.loc (thr d i) ↦[S]{q} xBuf f

/-- The words of a half of the staging buffer. -/
abbrev slotSet (o : ℕ) (ho : ∀ a, (![o] : Fin 1 → ℕ) a + S32768.size a ≤ S65536.size a) : Finset S65536.Idx := (slot bV o ho).view.set

theorem mem_slotSet {o : ℕ} {ho : ∀ a, (![o] : Fin 1 → ℕ) a + S32768.size a ≤ S65536.size a} {x : S65536.Idx} :
    x ∈ slotSet o ho ↔ o ≤ (x 0).val ∧ (x 0).val < o + 32768 := by
  have e : slotSet o ho = (Rect.unit (s := S65536) ![o] S32768.size ho).set := View.set_slice_whole _ _
  rw [e, Rect.mem_set_unit]
  exact ⟨fun h => h 0, fun h a => by have e : a = (0 : Fin 1) := Subsingleton.elim (α := Fin 1) _ _; subst e; exact h⟩

/-- A wait for one's own transfer. -/
theorem wait_wp {s s' : Shape} {e e' : EltTy} {sp sp' : Space} {κ' : Kind} {sem : DmaSem sig} {srcw : Memref sig .scVector sp' s' e'}
    {dstw : Memref sig κ' sp s e} {h₁ : srcw.view.WordExact} {h₂ : dstw.view.WordExact} {N : ℕ} (hN : dstw.view.dmaCredit = N) {k : PUnit → TileProg F i α}
    {O : CellTallies nD τ sig (HIx 1)} {W : Waits sig (HIx 1)} {D R : sProp 𝕄} {Q : α → sProp 𝕄}
    (H : iprop(R ∗ D ∗ semVal (thr d i, .dma sem) 0 ∗ Duty d i O W) ⊢ run d i (k ⟨⟩) Q) :
    iprop(R ∗ Flight countersEmb (thr d i) (.dma sem) (default : HIx 1) N D ∗ Duty d i O W) ⊢ run d i (.op (.waitDma2 sem srcw dstw h₁ h₂) k) Q := by
  unfold Duty at *
  iintro ⟨HR, HF, #Hmw, %W', %hW, HO⟩
  ihave Hm := (MayWaits.elim (SemLoc.dma sem)) $$ Hmw
  iapply (wp_waitLocalO countersEmb Variants.none (thr d i) none (default : HIx 1) hN) $$ [HF HO Hm]
  · isplitl [HF]; · iassumption
    isplitl [HO] <;> iassumption
  iintro ⟨HD, Hs, HO⟩
  iapply H
  isplitl [HR]; · iassumption
  isplitl [HD]; · iassumption
  isplitl [Hs]; · iassumption
  isplitr; · iexact Hmw
  iexists (insert (SemLoc.dma sem, (default : HIx 1)) W')
  isplitr
  · ipureintro
    intro p hp
    rcases Finset.mem_insert.1 hp with h | h
    · exact .inr (by rw [h]; rfl)
    · exact hW p h
  · iexact HO

/-- What a half's fetch delivers: its words at trip `n`'s, and the window's share back. -/
abbrev Landed (d : Dev nD) (i : grid0.Coords) (xf : ℕ → F .f32) (o : ℕ) (ho : ∀ a, (![o] : Fin 1 → ℕ) a + S32768.size a ≤ S65536.size a)
    (q : PosShare TreeShare) (n : ℕ) (M : Finset S8388608.Idx) : sProp 𝕄 :=
  iprop(stAt d i (slotSet o ho) (stage xf (num i) n) ∗ xAt d i M q xf)

/-- A half whose fetch of trip `n` is under way. -/
def Coming (d : Dev nD) (i : grid0.Coords) (xf : ℕ → F .f32) (o : ℕ) (ho : ∀ a, (![o] : Fin 1 → ℕ) a + S32768.size a ≤ S65536.size a)
    (q : PosShare TreeShare) (sem : DmaSem sig) (n : ℕ) : sProp 𝕄 :=
  iprop(∃ M : Finset S8388608.Idx, Flight countersEmb (thr d i) (.dma sem) (default : HIx 1) (slot bV o ho).view.dmaCredit (Landed d i xf o ho q n M)
    ∗ xAt d i (Finset.univ \ M) q xf)

/-- A half at rest: its words at some contents, its semaphore at zero, its share of the features whole. -/
def Idle (d : Dev nD) (i : grid0.Coords) (xf : ℕ → F .f32) (o : ℕ) (ho : ∀ a, (![o] : Fin 1 → ℕ) a + S32768.size a ≤ S65536.size a)
    (q : PosShare TreeShare) (sem : DmaSem sig) : sProp 𝕄 :=
  iprop((∃ f, (bV).view.loc (thr d i) ↦[slotSet o ho]{fullShare} f) ∗ semVal (thr d i, .dma sem) 0 ∗ xAt d i Finset.univ q xf)

theorem credit_pos (o : ℕ) (ho : ∀ a, (![o] : Fin 1 → ℕ) a + S32768.size a ≤ S65536.size a) : 0 < (slot bV o ho).view.dmaCredit :=
  View.dmaCredit_pos _ (by decide)

/-- A half's fetch begun. -/
theorem fetch_wp {xf : ℕ → F .f32} {o : ℕ} {ho : ∀ a, (![o] : Fin 1 → ℕ) a + S32768.size a ≤ S65536.size a} {q : PosShare TreeShare}
    {sem : DmaSems sig S_} {n : ℕ} {off : Fin 1 → ℕ} {hw : ∀ a, off a + S32768.size a ≤ S8388608.size a}
    (hoff : off = ![262144 * num i + 65536 * n + o]) {k : TileProg F i α} {R : sProp 𝕄} {Q : α → sProp 𝕄}
    (H : iprop(R ∗ Coming d i xf o ho q sem.sem n) ⊢ run d i k Q) :
    iprop(R ∗ Idle d i xf o ho q sem.sem) ⊢ run d i (fetch bV xV o ho off hw sem k) Q := by
  unfold Idle
  iintro ⟨HR, ⟨%f, HB⟩, Hs, HX⟩
  ihave HX' := (pointsTo_split_subset (q := q) (f := xBuf xf) (S := Finset.univ) (Finset.subset_univ (window xV off hw).view.set)).1 $$ HX
  icases HX' with ⟨HX, HX'⟩
  iapply (wp_dmaLocal countersEmb Variants.none (thr d i) none (src := window xV off hw) (dst := slot bV o ho) (sm := .dma sem.sem)
    (q := q) (fs := xBuf xf) (Sd := slotSet o ho) (fd := f) (default : HIx 1) (slot bV o ho).view.dmaCredit rfl (credit_pos o ho) (Finset.Subset.refl _))
    $$ [HB Hs HX]
  · isplitl [HX]; · iexact HX
    isplitl [HB]; · iexact HB
    iexact Hs
  iintro HF
  iapply H
  isplitl [HR]; · iassumption
  unfold Coming
  iexists (window xV off hw).view.set
  isplitl [HF]
  · iapply (Flight_mono countersEmb (thr d i) ?_) $$ HF
    refine sep_mono (Entails.of_eq (pointsTo_congr fun x hx => ?_)) .rfl
    subst hoff
    have hx' := mem_slotSet.1 hx
    let y : S32768.Idx := fun a => ⟨(x 0).val - o, by
      have ea : a = (0 : Fin 1) := Subsingleton.elim (α := Fin 1) _ _
      subst ea
      show (x 0).val - o < 32768
      omega⟩
    have e : x = (slot bV o ho).view.emb y := by
      funext a
      have ea : a = (0 : Fin 1) := Subsingleton.elim (α := Fin 1) _ _
      subst ea
      exact Fin.ext (by show (x 0).val = o + 1 * ((x 0).val - o); omega)
    rw [e, View.write_emb_of_mem _ _ (Finset.mem_univ _), ← e]
    show xf (262144 * num i + 65536 * n + o + 1 * ((x 0).val - o)) = xf (262144 * num i + 65536 * n + (x 0).val)
    congr 1; omega
  · iexact HX'

/-- A group of sixteen rows, its words read from the tile's words. -/
theorem group_wp {idf : ℕ → BitVec 32} {off : Fin 1 → ℕ} {hi : ∀ a, off a + S16.size a ≤ S1024.size a} {e : ℕ} (hoff : off = ![e])
    {b : BitVec 32} {hb : Rows b} {q : ℕ} (hq : At b q) (h16 : ∀ r : Fin 16, (idf (e + r.val)).toNat < 16) {S : Finset S65536.Idx} (hS : Held S q)
    {g f : ℕ → F .f32} {R : sProp 𝕄} {Q : PUnit → sProp 𝕄}
    (H : iprop((R ∗ idsAt d i idf) ∗ accAt d i (groupStep g (fun r => (idf (e + r.val)).toNat) q f) ∗ stAt d i S g) ⊢ Q ⟨⟩) :
    iprop((R ∗ idsAt d i idf) ∗ accAt d i f ∗ stAt d i S g) ⊢ run d i (group aV bV iV off hi b hb) Q := by
  let v : IVec S16 32 := fun x => idf (e + (x 0).val)
  have hv : ∀ r, idAt v r (slices_lane r) = idf (e + r.val) := fun r => by
    show idf (e + (r.val + 0)) = _
    rw [Nat.add_zero]
  have h := groupOf_wp (F := F) (d := d) (i := i) (ids := v) (hb := hb) hq (fun r => by rw [hv]; exact h16 r) hS (g := g) (f := f)
    (R := iprop(R ∗ idsAt d i idf)) (Q := Q) (by simp only [hv]; exact H)
  have er : shapeCast S16 (((iV).access (Rect.unit (s := S1024) off S16.size hi)).read (Elt F) (idBuf (F := F) idf)) shapeCasts_S16_S16 = v :=
    (shapeCast_id _ _).trans (id_read off hi e hoff idf)
  rw [← er] at h
  iintro ⟨⟨HR, HI⟩, HAS⟩
  iapply (wp_load Variants.none (thr d i) none Set.univ (m := iV) (r := (Rect.unit (s := S1024) off S16.size hi).toLoadRect) (S := Finset.univ)
    (f := idBuf idf) (q := fullShare) (Finset.subset_univ _)) $$ HI
  iintro HI
  iapply h
  isplitr [HAS]
  · isplitl [HR]
    · iassumption
    · iexact HI
  · iassumption

/-- The state of a half before trip `n`: its rows on their way if there are any, else at rest. -/
def Slot (d : Dev nD) (i : grid0.Coords) (xf : ℕ → F .f32) (o : ℕ) (ho : ∀ a, (![o] : Fin 1 → ℕ) a + S32768.size a ≤ S65536.size a)
    (q : PosShare TreeShare) (sem : DmaSem sig) (n : ℕ) : sProp 𝕄 :=
  if n < 4 then Coming d i xf o ho q sem n else Idle d i xf o ho q sem

/-- A part of a share of the features and the rest of it. -/
theorem xAt_join {q : PosShare TreeShare} {xf : ℕ → F .f32} (M : Finset S8388608.Idx) :
    iprop(xAt d i M q xf ∗ xAt d i (Finset.univ \ M) q xf) ⊢ (xAt d i Finset.univ q xf : sProp 𝕄) :=
  (pointsTo_split_subset (ℓ := (xV).view.loc (thr d i)) (I := M) (S := (Finset.univ : Finset S8388608.Idx)) (q := q) (f := xBuf xf)
    (fun _ _ => Finset.mem_univ _)).2

set_option maxHeartbeats 1000000 in
/-- One half of a trip. -/
theorem half_wp {xf : ℕ → F .f32} {jf : ℕ → BitVec 32} (hj : ∀ p, (jf p).toNat < 16) {o : ℕ}
    {ho : ∀ a, (![o] : Fin 1 → ℕ) a + S32768.size a ≤ S65536.size a} {q : PosShare TreeShare} {sem : DmaSems sig S_}
    {offI : Fin k0_t3_loop.trips → Fin 1 → ℕ} {hi : ∀ t a, offI t a + S16.size a ≤ S1024.size a}
    {hb : ∀ t : Fin k0_t3_loop.trips, Rows (base (BitVec.ofNat 32 o) t)} {c : BitVec 1} {off : Fin 1 → ℕ}
    {hw : c = 1#1 → ∀ a, off a + S32768.size a ≤ S8388608.size a} {k : TileProg F i PUnit.{1}} {n h : ℕ} (hn : n < 4) (hh : h < 2) (eo : o = 32768 * h)
    (hat : ∀ t : Fin k0_t3_loop.trips, At (base (BitVec.ofNat 32 o) t) (o + 4096 * t.val))
    (eI : ∀ t, offI t = ![256 * n + 128 * h + 16 * t.val]) (hc : c = 1#1 ↔ n + 1 < 4)
    (eoff : n + 1 < 4 → off = ![262144 * num i + 65536 * (n + 1) + o])
    {O : CellTallies nD τ sig (HIx 1)} {W : Waits sig (HIx 1)} {R : sProp 𝕄} {Q : PUnit → sProp 𝕄}
    (H : iprop(R ∗ idsAt d i (fun p => jf (1024 * num i + p)) ∗ accAt d i (accAfter xf jf (num i) (16 * n + 8 * h + 8))
      ∗ Slot d i xf o ho q sem.sem (n + 1) ∗ Duty d i O W) ⊢ run d i k Q) :
    iprop(R ∗ idsAt d i (fun p => jf (1024 * num i + p)) ∗ accAt d i (accAfter xf jf (num i) (16 * n + 8 * h))
      ∗ Slot d i xf o ho q sem.sem n ∗ Duty d i O W) ⊢ run d i (half aV bV xV iV o ho sem offI hi hb c off hw k) Q := by
  let idf : ℕ → BitVec 32 := fun p => jf (1024 * num i + p)
  let Fr : sProp 𝕄 := iprop(R ∗ xAt d i Finset.univ q xf ∗ semVal (thr d i, .dma sem.sem) 0 ∗ Duty d i O W)
  let J : ℕ → PUnit.{1} → sProp 𝕄 := fun t _ => iprop((Fr ∗ idsAt d i idf) ∗ accAt d i (accAfter xf jf (num i) (16 * n + 8 * h + t))
    ∗ stAt d i (slotSet o ho) (stage xf (num i) n))
  have hbody : ∀ (t : Fin k0_t3_loop.trips) (acc : PUnit.{1}), J t.val acc ⊢ run d i (group aV bV iV (offI t) (hi t) (base (BitVec.ofNat 32 o) t) (hb t)) (J (t.val + 1)) := by
    intro t _
    have ht := lt_of_lt_of_eq t.isLt trips₃
    have e₁ : (16 * n + 8 * h + t.val) / 16 = n := by omega
    have e₂ : 4096 * ((16 * n + 8 * h + t.val) % 16) = o + 4096 * t.val := by omega
    have e₃ : ∀ r : Fin 16, idf (256 * n + 128 * h + 16 * t.val + r.val) = jf (1024 * num i + 16 * (16 * n + 8 * h + t.val) + r.val) := fun r => by
      show jf _ = jf _
      congr 1; omega
    have e : groupStep (stage xf (num i) n) (fun r => (idf (256 * n + 128 * h + 16 * t.val + r.val)).toNat) (o + 4096 * t.val)
        (accAfter xf jf (num i) (16 * n + 8 * h + t.val)) = accAfter xf jf (num i) (16 * n + 8 * h + (t.val + 1)) := by
      rw [← Nat.add_assoc, accAfter_succ, e₁, e₂]
      simp only [e₃]
    have hg := group_wp (F := F) (U := U) (d := d) (i := i) (idf := idf) (off := offI t) (hi := hi t) (hb := hb t) (g := stage xf (num i) n) (f := accAfter xf jf (num i) (16 * n + 8 * h + t.val)) (R := Fr) (S := slotSet o ho) (Q := J (t.val + 1))
      (eI t) (hat t) (fun r => hj _) (fun x h₁ h₂ => mem_slotSet.2 ⟨by omega, by omega⟩) (Entails.of_eq (by rw [e]))
    exact hg
  have last : iprop(R ∗ idsAt d i idf ∗ accAt d i (accAfter xf jf (num i) (16 * n + 8 * h + 8)) ∗ Idle d i xf o ho q sem.sem ∗ Duty d i O W)
      ⊢ run d i (if h : c = 1#1 then fetch bV xV o ho off (hw h) sem k else k) Q := by
    by_cases hl : n + 1 < 4
    · refine Eq.mpr (congrArg (fun p => iprop(R ∗ idsAt d i idf ∗ accAt d i (accAfter xf jf (num i) (16 * n + 8 * h + 8)) ∗ Idle d i xf o ho q sem.sem ∗ Duty d i O W)
        ⊢ run d i p Q) (dif_pos (hc.2 hl))) ?_
      have hf := fetch_wp (F := F) (U := U) (d := d) (i := i) (xf := xf) (ho := ho) (q := q) (sem := sem) (n := n + 1) (hw := hw (hc.2 hl)) (eoff hl) (k := k)
        (R := iprop(R ∗ idsAt d i idf ∗ accAt d i (accAfter xf jf (num i) (16 * n + 8 * h + 8)) ∗ Duty d i O W)) (Q := Q) (by
          rw [Slot, if_pos hl] at H
          iintro ⟨⟨HR, HI, HA, HD⟩, HC⟩
          iapply H
          isplitl [HR]; · iassumption
          isplitl [HI]; · iassumption
          isplitl [HA]; · iassumption
          isplitl [HC] <;> iassumption)
      iintro ⟨HR, HI, HA, HC, HD⟩
      iapply hf
      isplitr [HC]
      · isplitl [HR]; · iassumption
        isplitl [HI]; · iassumption
        isplitl [HA] <;> iassumption
      · iassumption
    · refine Eq.mpr (congrArg (fun p => iprop(R ∗ idsAt d i idf ∗ accAt d i (accAfter xf jf (num i) (16 * n + 8 * h + 8)) ∗ Idle d i xf o ho q sem.sem ∗ Duty d i O W)
        ⊢ run d i p Q) (dif_neg (mt hc.1 hl))) ?_
      rw [Slot, if_neg hl] at H
      exact H
  have loop := Scf.wp_for_bind Idealize.ShloMosaic.frame (wpE (defs₀ (F := F)) Variants.none (thr d i) none) Set.univ _ _ _ k0_t3_ok PUnit.unit
    (fun t _ => group aV bV iV (offI t) (hi t) (base (BitVec.ofNat 32 o) t) (hb t)) J hbody
    (kk := fun _ => if h : c = 1#1 then fetch bV xV o ho off (hw h) sem k else k) (Q := Q)
  rw [Slot, if_pos hn]
  unfold Coming
  have hwait : ∀ M, iprop(iprop(R ∗ idsAt d i idf ∗ accAt d i (accAfter xf jf (num i) (16 * n + 8 * h)) ∗ xAt d i (Finset.univ \ M) q xf)
      ∗ Flight countersEmb (thr d i) (.dma sem.sem) (default : HIx 1) (slot bV o ho).view.dmaCredit (Landed d i xf o ho q n M) ∗ Duty d i O W)
      ⊢ run d i (half aV bV xV iV o ho sem offI hi hb c off hw k) Q := by
    intro M
    refine wait_wp rfl ?_
    iintro ⟨⟨HR, HI, HA, HX'⟩, ⟨HB, HX⟩, Hs, HD⟩
    ihave HX := (xAt_join (F := F) (U := U) (d := d) (i := i) (q := q) (xf := xf) M) $$ [HX HX']
    · isplitl [HX] <;> iassumption
    iapply loop $$ [HR HX Hs HD HI HA HB]
    · isplitr [HA HB]
      · isplitr [HI]
        · isplitl [HR]; · iassumption
          isplitl [HX]; · iassumption
          isplitl [Hs] <;> iassumption
        · iassumption
      · isplitl [HA] <;> iassumption
    iintro %_ HJ
    icases HJ with ⟨⟨⟨HR, HX, Hs, HD⟩, HI⟩, HA, HB⟩
    iapply last
    isplitl [HR]; · iassumption
    isplitl [HI]; · iassumption
    isplitl [HA]; · iexact HA
    isplitr [HD]
    · unfold Idle
      isplitl [HB]
      · iexists _; iexact HB
      isplitl [Hs] <;> iassumption
    · iassumption
  iintro ⟨HR, HI, HA, ⟨%M, HF, HX'⟩, HD⟩
  iapply (hwait M)
  isplitl [HR HI HA HX']
  · isplitl [HR]; · iassumption
    isplitl [HI]; · iassumption
    isplitl [HA] <;> iassumption
  isplitl [HF] <;> iassumption

end Cert.KernelIdeal.Walk
end
-- ==== Proof.Ideal.Whole.lean ====
/-
  The whole program of a tile: its words fetched, the accumulator zeroed, the four pairs of chunks, the accumulator
  sent to the tile's row of the partial maxima.
-/
module

public import proofs.«01_k».proof.Proof.Ideal.Tile

@[expose] public section

noncomputable section

namespace Cert.KernelIdeal.Walk

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers
open Facts₀ Facts

variable {F : FTy → Type} [FloatOps F] {U : Type} [URA U] [CountersIn U]

local notation "𝕄" => MT nD τ sig (HIx 1) (Elt F) ℕ U ℕ
local notation "aV" => (Memref.whole Cert.KernelIdeal.cc0_scratch2 : Memref Cert.KernelIdeal.sig Kind.scVector Space.vmem Cert.KernelIdeal.S4096 EltTy.f32)
local notation "bV" => (Memref.whole Cert.KernelIdeal.cc0_scratch0 : Memref Cert.KernelIdeal.sig Kind.scVector Space.vmem Cert.KernelIdeal.S65536 EltTy.f32)
local notation "iV" => (Memref.whole Cert.KernelIdeal.cc0_scratch1 : Memref Cert.KernelIdeal.sig Kind.scVector Space.vmem Cert.KernelIdeal.S1024 EltTy.i32)
local notation "xV" => (Memref.whole Cert.KernelIdeal.main_v0_scv : Memref Cert.KernelIdeal.sig Kind.scVector Space.hbm Cert.KernelIdeal.S8388608 EltTy.f32)
local notation "jV" => (Memref.whole Cert.KernelIdeal.main_arg1_scv : Memref Cert.KernelIdeal.sig Kind.scVector Space.hbm Cert.KernelIdeal.S32768 EltTy.i32)
local notation "oV" => (Memref.whole Cert.KernelIdeal.main_v1_scv : Memref Cert.KernelIdeal.sig Kind.scVector Space.hbm Cert.KernelIdeal.S32x4096 EltTy.f32)

variable {d : Dev nD} {i : grid0.Coords} {α : Type}

theorem lt_num (i : grid0.Coords) : num i < 32 := by
  have h₀ : (i 0).val < 2 := (i 0).isLt
  have h₁ : (i 1).val < 16 := (i 1).isLt
  show 16 * (i 0).val + (i 1).val < 32
  omega

theorem vec_eq {a b : ℕ} (h : a = b) : (![a] : Fin 1 → ℕ) = ![b] := by rw [h]

/-- A program that is done. -/
theorem ret_wp {P : sProp 𝕄} {Q : PUnit.{1} → sProp 𝕄} (H : P ⊢ Q PUnit.unit) : P ⊢ run d i (.ret PUnit.unit) Q :=
  H.trans (le_wp_ret _ _ _ _ _)

/-! ## The accumulator zeroed -/

/-- The accumulator's words as a function on word numbers. -/
theorem acc_words (b : S4096.Idx → Elt F .f32) : ∃ f : ℕ → F .f32, b = accBuf f := by
  refine ⟨fun p => b (fun a => ⟨p % 4096, by
    have ea : a = (0 : Fin 1) := Subsingleton.elim (α := Fin 1) _ _
    subst ea
    exact Nat.mod_lt _ (by decide)⟩), ?_⟩
  funext x
  show b x = b _
  congr 1
  funext a
  have ea : a = (0 : Fin 1) := Subsingleton.elim (α := Fin 1) _ _
  subst ea
  exact Fin.ext (Nat.mod_eq_of_lt (x 0).isLt).symm

/-- Zero in the first `n` words. -/
def zeroed (f : ℕ → F .f32) (n : ℕ) : ℕ → F .f32 := fun p => if p < n then Scalar.ofBits .f32 0x00000000#32 else f p

/-- The accumulator zeroed. -/
theorem zeros_wp {f : ℕ → F .f32} {R : sProp 𝕄} {β : Type} {kk : PUnit.{1} → TileProg F i β} {Q : β → sProp 𝕄}
    (H : iprop(R ∗ accAt d i fun _ => Scalar.ofBits .f32 0x00000000#32) ⊢ run d i (kk PUnit.unit) Q) :
    iprop(R ∗ accAt d i f) ⊢ run d i (zeros aV >>= kk) Q := by
  let J : ℕ → PUnit.{1} → sProp 𝕄 := fun t _ => iprop(R ∗ accAt d i (zeroed f (16 * t)))
  have hbody : ∀ (t : Fin k0_t1_loop.trips) (acc : PUnit.{1}), J t.val acc ⊢ run d i (ldA aV (k0_off2 t) (k0_off2_inb t) fun _ =>
      stA aV (k0_off2 t) (k0_off2_inb t) (shapeCast S16 (broadcast S16 (Scalar.ofBits .f32 0x00000000#32)) shapeCasts_S16_S16) (.ret PUnit.unit)) (J (t.val + 1)) := by
    intro t _
    refine ldA_wp (Gen.k0_off2_eq t) ?_
    refine stA_wp (Gen.k0_off2_eq t) (h := fun _ => Scalar.ofBits .f32 0x00000000#32) ?_ ?_
    · rw [shapeCast_id]; rfl
    · have e : (fun p => if 16 * t.val ≤ p ∧ p < 16 * t.val + 16 then Scalar.ofBits .f32 0x00000000#32 else zeroed f (16 * t.val) p) = zeroed f (16 * (t.val + 1)) := by
        funext p
        unfold zeroed
        by_cases h₁ : p < 16 * t.val
        · rw [if_neg (by omega), if_pos h₁, if_pos (by omega)]
        · by_cases h₂ : p < 16 * (t.val + 1)
          · rw [if_pos (by omega), if_pos h₂]
          · rw [if_neg (by omega), if_neg h₁, if_neg h₂]
      rw [e]
      exact ret_wp (Q := J (t.val + 1)) .rfl
  have loop := Scf.wp_for_bind Idealize.ShloMosaic.frame (wpE (defs₀ (F := F)) Variants.none (thr d i) none) Set.univ _ _ _ k0_t1_ok PUnit.unit
    (fun t _ => ldA aV (k0_off2 t) (k0_off2_inb t) fun _ =>
      stA aV (k0_off2 t) (k0_off2_inb t) (shapeCast S16 (broadcast S16 (Scalar.ofBits .f32 0x00000000#32)) shapeCasts_S16_S16) (.ret PUnit.unit)) J hbody
    (kk := kk) (Q := Q)
  have e₀ : zeroed f (16 * 0) = f := by funext p; exact if_neg (by omega)
  have e₁ : (accAt d i (zeroed f (16 * k0_t1_loop.trips)) : sProp 𝕄) = accAt d i fun _ => Scalar.ofBits .f32 0x00000000#32 :=
    pointsTo_congr fun x _ => if_pos (by rw [trips₁]; exact (x 0).isLt)
  iintro ⟨HR, HA⟩
  iapply loop $$ [HR HA]
  · isplitl [HR]; · iassumption
    rw [e₀]; iassumption
  iintro %_ HJ
  icases HJ with ⟨HR, HA⟩
  iapply H
  isplitl [HR]; · iassumption
  rw [← e₁]; iexact HA

/-! ## The four pairs of chunks -/

theorem at₁' (t : Fin k0_t3_loop.trips) : At (base (BitVec.ofNat 32 0) t) (0 + 4096 * t.val) := by rw [Nat.zero_add]; exact at₁ t
theorem cond2_iff : ∀ n : Fin k0_t2_loop.trips, k0_cond2 n = 1#1 ↔ n.val + 1 < 4 := by decide +kernel
theorem cond4_iff : ∀ n : Fin k0_t2_loop.trips, k0_cond4 n = 1#1 ↔ n.val + 1 < 4 := by decide +kernel

/-- The four pairs of chunks. -/
theorem pairs_wp {xf : ℕ → F .f32} {jf : ℕ → BitVec 32} (hj : ∀ p, (jf p).toNat < 16) {q₁ q₂ : PosShare TreeShare} {s₁ s₂ : DmaSems sig S_}
    {O : CellTallies nD τ sig (HIx 1)} {W : Waits sig (HIx 1)} {R : sProp 𝕄} {β : Type} {kk : PUnit.{1} → TileProg F i β} {Q : β → sProp 𝕄}
    (H : iprop(R ∗ idsAt d i (fun p => jf (1024 * num i + p)) ∗ accAt d i (accAfter xf jf (num i) 64)
      ∗ Idle d i xf 0 inb_S65536_S32768_0 q₁ s₁.sem ∗ Idle d i xf 32768 inb_S65536_S32768_32768 q₂ s₂.sem ∗ Duty d i O W) ⊢ run d i (kk PUnit.unit) Q) :
    iprop(R ∗ idsAt d i (fun p => jf (1024 * num i + p)) ∗ accAt d i (accAfter xf jf (num i) 0)
      ∗ Coming d i xf 0 inb_S65536_S32768_0 q₁ s₁.sem 0 ∗ Coming d i xf 32768 inb_S65536_S32768_32768 q₂ s₂.sem 0 ∗ Duty d i O W)
      ⊢ run d i (pairs aV bV xV iV s₁ s₂ rows₁ rows₂ >>= kk) Q := by
  let J : ℕ → PUnit.{1} → sProp 𝕄 := fun n _ => iprop(R ∗ idsAt d i (fun p => jf (1024 * num i + p)) ∗ accAt d i (accAfter xf jf (num i) (16 * n))
      ∗ Slot d i xf 0 inb_S65536_S32768_0 q₁ s₁.sem n ∗ Slot d i xf 32768 inb_S65536_S32768_32768 q₂ s₂.sem n ∗ Duty d i O W)
  have hbody : ∀ (n : Fin k0_t2_loop.trips) (acc : PUnit.{1}), J n.val acc ⊢ run d i (
      half aV bV xV iV 0 inb_S65536_S32768_0 s₁ (k0_off4 n) (k0_off4_inb n) rows₁ (k0_cond2 n) (k0_off40 i n) (k0_off40_inb i n) <|
      half aV bV xV iV 32768 inb_S65536_S32768_32768 s₂ (k0_off41 n) (k0_off41_inb n) rows₂ (k0_cond4 n) (k0_off77 i n) (k0_off77_inb i n) <|
      .ret PUnit.unit) (J (n.val + 1)) := by
    intro n _
    have hn := lt_of_lt_of_eq n.isLt trips₂
    have two := half_wp (F := F) (U := U) (d := d) (i := i) (xf := xf) hj (ho := inb_S65536_S32768_32768) (q := q₂) (sem := s₂) (hi := k0_off41_inb n)
      (hb := rows₂) (hw := k0_off77_inb i n) (k := .ret PUnit.unit) (h := 1) hn (by decide) rfl at₂
      (fun t => by rw [Gen.k0_off41_eq]; exact vec_eq (by omega)) (cond4_iff n) (fun _ => by rw [Gen.k0_off77_eq]; exact vec_eq (by show _ = 262144 * (16 * (i 0).val + (i 1).val) + _ + _; omega))
      (O := O) (W := W) (R := iprop(R ∗ Slot d i xf 0 inb_S65536_S32768_0 q₁ s₁.sem (n.val + 1))) (Q := J (n.val + 1)) (by
        refine BIBase.Entails.trans ?_ (le_wp_ret _ _ _ _ _)
        iintro ⟨⟨HR, H₁⟩, HI, HA, H₂, HD⟩
        isplitl [HR]; · iassumption
        isplitl [HI]; · iassumption
        isplitl [HA]
        · rw [show 16 * (n.val + 1) = 16 * n.val + 8 * 1 + 8 by omega]; iassumption
        isplitl [H₁]; · iassumption
        isplitl [H₂] <;> iassumption)
    have one := half_wp (F := F) (U := U) (d := d) (i := i) (xf := xf) hj (ho := inb_S65536_S32768_0) (q := q₁) (sem := s₁) (hi := k0_off4_inb n)
      (hb := rows₁) (hw := k0_off40_inb i n) (k := half aV bV xV iV 32768 inb_S65536_S32768_32768 s₂ (k0_off41 n) (k0_off41_inb n) rows₂ (k0_cond4 n) (k0_off77 i n) (k0_off77_inb i n) <|
      .ret PUnit.unit) (h := 0) hn (by decide) rfl at₁'
      (fun t => by rw [Gen.k0_off4_eq]; exact vec_eq (by omega)) (cond2_iff n) (fun _ => by rw [Gen.k0_off40_eq]; exact vec_eq (by show _ = 262144 * (16 * (i 0).val + (i 1).val) + _ + _; omega))
      (O := O) (W := W) (R := iprop(R ∗ Slot d i xf 32768 inb_S65536_S32768_32768 q₂ s₂.sem n.val)) (Q := J (n.val + 1)) (by
        refine BIBase.Entails.trans ?_ two
        iintro ⟨⟨HR, H₂⟩, HI, HA, H₁, HD⟩
        isplitl [HR H₁]
        · isplitl [HR] <;> iassumption
        isplitl [HI]; · iassumption
        isplitl [HA]
        · rw [show 16 * n.val + 8 * 1 = 16 * n.val + 8 * 0 + 8 by omega]; iassumption
        isplitl [H₂] <;> iassumption)
    refine BIBase.Entails.trans ?_ one
    iintro ⟨HR, HI, HA, H₁, H₂, HD⟩
    isplitl [HR H₂]
    · isplitl [HR] <;> iassumption
    isplitl [HI]; · iassumption
    isplitl [HA]; · iexact HA
    isplitl [H₁] <;> iassumption
  have loop := Scf.wp_for_bind Idealize.ShloMosaic.frame (wpE (defs₀ (F := F)) Variants.none (thr d i) none) Set.univ _ _ _ k0_t2_ok PUnit.unit
    (fun n _ => half aV bV xV iV 0 inb_S65536_S32768_0 s₁ (k0_off4 n) (k0_off4_inb n) rows₁ (k0_cond2 n) (k0_off40 i n) (k0_off40_inb i n) <|
      half aV bV xV iV 32768 inb_S65536_S32768_32768 s₂ (k0_off41 n) (k0_off41_inb n) rows₂ (k0_cond4 n) (k0_off77 i n) (k0_off77_inb i n) <|
      .ret PUnit.unit) J hbody
    (kk := kk) (Q := Q)
  have e₀ : ∀ o ho q s, (Slot d i xf o ho q s 0 : sProp 𝕄) = Coming d i xf o ho q s 0 := fun o ho q s => if_pos (by decide)
  have e₁ : ∀ o ho q s, (Slot d i xf o ho q s k0_t2_loop.trips : sProp 𝕄) = Idle d i xf o ho q s := fun o ho q s => if_neg (by rw [trips₂]; decide)
  iintro ⟨HR, HI, HA, H₁, H₂, HD⟩
  iapply loop $$ [HR HI HA H₁ H₂ HD]
  · isplitl [HR]; · iassumption
    isplitl [HI]; · iassumption
    isplitl [HA]; · iexact HA
    rw [e₀, e₀]
    isplitl [H₁]; · iassumption
    isplitl [H₂] <;> iassumption
  iintro %_ HJ
  iapply H
  have eJ : J k0_t2_loop.trips PUnit.unit = iprop(R ∗ idsAt d i (fun p => jf (1024 * num i + p)) ∗ accAt d i (accAfter xf jf (num i) 64)
      ∗ Idle d i xf 0 inb_S65536_S32768_0 q₁ s₁.sem ∗ Idle d i xf 32768 inb_S65536_S32768_32768 q₂ s₂.sem ∗ Duty d i O W) := by
    show iprop(R ∗ idsAt d i (fun p => jf (1024 * num i + p)) ∗ accAt d i (accAfter xf jf (num i) (16 * k0_t2_loop.trips)) ∗ _) = _
    rw [e₁, e₁, trips₂]
  rw [← eJ]
  iexact HJ

/-! ## The whole tile -/

/-- The row of tile `w` in the partial maxima, at what the tile leaves. -/
abbrev pBuf (xf : ℕ → F .f32) (jf : ℕ → BitVec 32) : S32x4096.Idx → Elt F .f32 := fun x => accAfter xf jf (x 0).val 64 (x 1).val

/-- The tile's row of the partial maxima. -/
abbrev rowSet (i : grid0.Coords) : Finset S32x4096.Idx := (outRow oV i).view.set

theorem mem_rowSet {x : S32x4096.Idx} : x ∈ rowSet i ↔ (x 0).val = num i := by
  have e : rowSet i = (Rect.unit (s := S32x4096) (k0_off78 i) S1x4096.size (k0_off78_inb i)).set := by
    show (((oV).view.slice (Rect.unit (s := S32x4096) (k0_off78 i) S1x4096.size (k0_off78_inb i))).reshape S4096 squeezes_S1x4096_S4096.numel_eq).set = _
    rw [View.set_reshape]
    exact View.set_slice_whole _ _
  rw [e, Rect.mem_set_unit, Gen.k0_off78_eq]
  constructor
  · intro h
    have h₀ : 16 * (i 0).val + (i 1).val ≤ (x 0).val ∧ (x 0).val < 16 * (i 0).val + (i 1).val + 1 := h 0
    show (x 0).val = 16 * (i 0).val + (i 1).val
    omega
  · intro h a
    replace h : (x 0).val = 16 * (i 0).val + (i 1).val := h
    match a with
    | 0 => exact ⟨by show 16 * (i 0).val + (i 1).val ≤ (x 0).val; omega, by show (x 0).val < 16 * (i 0).val + (i 1).val + 1; omega⟩
    | 1 => exact ⟨Nat.zero_le _, by show (x 1).val < 0 + 4096; have := (x 1).isLt; exact (Nat.zero_add 4096).symm ▸ this⟩

/-- A share of the ids. -/
abbrev jAt (d : Dev nD) (i : grid0.Coords) (S : Finset S32768.Idx) (q : PosShare TreeShare) (f : ℕ → BitVec 32) : sProp 𝕄 :=
  (jV).view.loc (thr d i) ↦[S]{q} jBuf f
/-- The tile's row of the partial maxima at `f`. -/
abbrev rowAt (d : Dev nD) (i : grid0.Coords) (f : S32x4096.Idx → Elt F .f32) : sProp 𝕄 := (oV).view.loc (thr d i) ↦[rowSet i]{fullShare} f

/-- The accumulator on its way out: delivered, the tile's row at what it leaves. -/
theorem out_eq (f : S32x4096.Idx → Elt F .f32) (xf : ℕ → F .f32) (jf : ℕ → BitVec 32) :
    (rowAt d i ((outRow oV i).view.write (Elt F) f ((ReadAs.same (Val := Elt F) (s := S4096) (e := .f32)).apply ((aV).view.read (Elt F) (accBuf (accAfter xf jf (num i) 64)))) Finset.univ) : sProp 𝕄)
      = rowAt d i (pBuf xf jf) := by
  refine pointsTo_congr fun x hx => ?_
  obtain ⟨y, -, hy⟩ := Finset.mem_map.1 hx
  have h₀ : (x 0).val = num i := mem_rowSet.1 hx
  let z : S1x4096.Idx := Shape.reshapeEquiv squeezes_S1x4096_S4096.numel_eq y
  have hz : (S1x4096.rowMajor z).val = (S4096.rowMajor y).val := Shape.rowMajor_reshapeEquiv squeezes_S1x4096_S4096.numel_eq y
  have e₁ : (S1x4096.rowMajor z).val = (z 0).val * 4096 + (z 1).val := Shape.rowMajor_val_two z
  have e₂ : (S4096.rowMajor y).val = (y 0).val := Shape.rowMajor_val_one y
  have z₀ : (z 0).val < 1 := (z 0).isLt
  have hx₁ : (x 1).val = (y 0).val := by
    rw [← hy]
    show k0_off78 i 1 + 1 * (z 1).val = (y 0).val
    rw [Gen.k0_off78_eq]
    show 0 + 1 * (z 1).val = (y 0).val
    omega
  rw [← hy, View.write_emb_of_mem _ _ (Finset.mem_univ _), hy]
  show accAfter xf jf (num i) 64 (y 0).val = accAfter xf jf (x 0).val 64 (x 1).val
  rw [h₀, hx₁]

/-- The tile's words fetched. -/
theorem in_eq (f : S1024.Idx → Elt F .i32) (jf : ℕ → BitVec 32) :
    (iV).view.write (Elt F) f ((ReadAs.same (Val := Elt F) (s := S1024) (e := .i32)).apply ((words jV i).view.read (Elt F) (jBuf (F := F) jf))) Finset.univ
      = idBuf (F := F) fun p => jf (1024 * num i + p) := by
  show View.write (Elt F) (View.whole cc0_scratch1) f _ Finset.univ = _
  rw [View.write_whole_univ]
  funext x
  show jf (k0_off1 i 0 + 1 * (x 0).val) = jf (1024 * (16 * (i 0).val + (i 1).val) + (x 0).val)
  rw [Gen.k0_off1_eq]
  show jf (16384 * (i 0).val + 1024 * (i 1).val + 1 * (x 0).val) = _
  congr 1; omega

/-- The tile's scratch and semaphores: its three buffers at some contents, its four semaphores at zero. -/
def Scratch (d : Dev nD) (i : grid0.Coords) (s₁ s₂ r₀ r₁ : DmaSem sig) : sProp 𝕄 :=
  iprop((∃ f, (aV).view.loc (thr d i) ↦[Finset.univ]{fullShare} f) ∗ (∃ f, (bV).view.loc (thr d i) ↦[Finset.univ]{fullShare} f)
    ∗ (∃ f, (iV).view.loc (thr d i) ↦[Finset.univ]{fullShare} f)
    ∗ semVal (thr d i, .dma s₁) 0 ∗ semVal (thr d i, .dma s₂) 0 ∗ semVal (thr d i, .dma r₀) 0 ∗ semVal (thr d i, .dma r₁) 0)

/-- The two halves are the staging buffer. -/
theorem compl_slot : (Finset.univ : Finset S65536.Idx) \ slotSet 0 inb_S65536_S32768_0 = slotSet 32768 inb_S65536_S32768_32768 := by
  ext x
  rw [Finset.mem_sdiff, mem_slotSet, mem_slotSet]
  have hx : (x 0).val < 65536 := (x 0).isLt
  constructor
  · rintro ⟨-, h⟩
    omega
  · intro h
    exact ⟨Finset.mem_univ _, by omega⟩

theorem stage_split (f : S65536.Idx → Elt F .f32) :
    ((bV).view.loc (thr d i) ↦[Finset.univ]{fullShare} f : sProp 𝕄) ⊣⊢ iprop(((bV).view.loc (thr d i) ↦[slotSet 0 inb_S65536_S32768_0]{fullShare} f)
      ∗ (bV).view.loc (thr d i) ↦[slotSet 32768 inb_S65536_S32768_32768]{fullShare} f) := by
  have h := pointsTo_split_subset (nD := nD) (τ := τ) (sig := sig) (Ix := HIx 1) (Val := Elt F) (Name := ℕ) (U := U) (Lvl := ℕ)
    (ℓ := (bV).view.loc (thr d i)) (I := slotSet 0 inb_S65536_S32768_0) (S := (Finset.univ : Finset S65536.Idx)) (q := fullShare) (f := f)
    (fun _ _ => Finset.mem_univ _)
  rw [compl_slot] at h
  exact h

/-- The halves, each at some contents, are the staging buffer at some contents. -/
theorem stage_join (f g : S65536.Idx → Elt F .f32) :
    iprop(((bV).view.loc (thr d i) ↦[slotSet 0 inb_S65536_S32768_0]{fullShare} f)
      ∗ (bV).view.loc (thr d i) ↦[slotSet 32768 inb_S65536_S32768_32768]{fullShare} g)
    ⊢ (iprop(∃ f, (bV).view.loc (thr d i) ↦[Finset.univ]{fullShare} f) : sProp 𝕄) := by
  let k : S65536.Idx → Elt F .f32 := fun x => if (x 0).val < 32768 then f x else g x
  have e₁ : ((bV).view.loc (thr d i) ↦[slotSet 0 inb_S65536_S32768_0]{fullShare} f : sProp 𝕄)
      = (bV).view.loc (thr d i) ↦[slotSet 0 inb_S65536_S32768_0]{fullShare} k :=
    pointsTo_congr fun x hx => (if_pos (by have := mem_slotSet.1 hx; omega)).symm
  have e₂ : ((bV).view.loc (thr d i) ↦[slotSet 32768 inb_S65536_S32768_32768]{fullShare} g : sProp 𝕄)
      = (bV).view.loc (thr d i) ↦[slotSet 32768 inb_S65536_S32768_32768]{fullShare} k :=
    pointsTo_congr fun x hx => (if_neg (by have := mem_slotSet.1 hx; omega)).symm
  rw [e₁, e₂]
  iintro H
  iexists k
  iapply (stage_split k).2
  iexact H

theorem jAt_join {q : PosShare TreeShare} {jf : ℕ → BitVec 32} (M : Finset S32768.Idx) :
    iprop(jAt d i M q jf ∗ jAt d i (Finset.univ \ M) q jf) ⊢ (jAt d i Finset.univ q jf : sProp 𝕄) :=
  (pointsTo_split_subset (ℓ := (jV).view.loc (thr d i)) (I := M) (S := (Finset.univ : Finset S32768.Idx)) (q := q) (f := jBuf jf)
    (fun _ _ => Finset.mem_univ _)).2

/-- A whole share of the features is its two halves. -/
theorem share_x {q : PosShare TreeShare} {xf : ℕ → F .f32} :
    (xAt d i Finset.univ q xf : sProp 𝕄) ⊣⊢ iprop(xAt d i Finset.univ q.left xf ∗ xAt d i Finset.univ q.right xf) :=
  pointsTo_share (PosShare.mem_left_op_right q)

set_option maxHeartbeats 1000000 in
/-- THE TILE: from its shares of the features and of the ids, its row of the partial maxima and its scratch, the row is left
    at the maxima of the tile's rows by segment, everything else given back. -/
theorem tile_wp {xf : ℕ → F .f32} {jf : ℕ → BitVec 32} (hj : ∀ p, (jf p).toNat < 16) {q qj : PosShare TreeShare} {s₁ s₂ r₀ r₁ : DmaSems sig S_}
    {hI : (iV).IsWhole} {hA : (aV).IsWhole} {O : CellTallies nD τ sig (HIx 1)} {W : Waits sig (HIx 1)} (f : S32x4096.Idx → Elt F .f32) :
    iprop(xAt d i Finset.univ q xf ∗ jAt d i Finset.univ qj jf ∗ rowAt d i f ∗ Scratch d i s₁.sem s₂.sem r₀.sem r₁.sem ∗ Duty d i O W)
      ⊢ run d i (tile aV bV xV jV oV iV hI hA s₁ s₂ r₀ r₁ rows₁ rows₂) fun _ =>
        (iprop(xAt d i Finset.univ q xf ∗ jAt d i Finset.univ qj jf ∗ rowAt d i (pBuf xf jf) ∗ Scratch d i s₁.sem s₂.sem r₀.sem r₁.sem ∗ Duty d i O W) : sProp 𝕄) := by
  let Q : PUnit.{1} → sProp 𝕄 := fun _ => iprop(xAt d i Finset.univ q xf ∗ jAt d i Finset.univ qj jf ∗ rowAt d i (pBuf xf jf)
    ∗ Scratch d i s₁.sem s₂.sem r₀.sem r₁.sem ∗ Duty d i O W)
  let idf : ℕ → BitVec 32 := fun p => jf (1024 * num i + p)
  let kw : PUnit.{1} → TileProg F i PUnit.{1} := fun _ => .op (.waitDma2 r₁.sem aV (outRow oV i) hA.wordExact ((View.wordExact_bits rfl).reshape _ _)) fun _ => .ret PUnit.unit
  -- what waits outside the accumulator's way out
  let R₁ : sProp 𝕄 := iprop(jAt d i Finset.univ qj jf ∗ idsAt d i idf ∗ Idle d i xf 0 inb_S65536_S32768_0 q.left s₁.sem
    ∗ Idle d i xf 32768 inb_S65536_S32768_32768 q.right s₂.sem ∗ semVal (thr d i, .dma r₀.sem) 0)
  have hlast : iprop(R₁ ∗ Flight countersEmb (thr d i) (.dma r₁.sem) (default : HIx 1) (outRow oV i).view.dmaCredit
      iprop(rowAt d i (pBuf xf jf) ∗ accAt d i (accAfter xf jf (num i) 64)) ∗ Duty d i O W) ⊢ run d i (kw PUnit.unit) Q := by
    refine wait_wp rfl (ret_wp ?_)
    iintro ⟨⟨HJ, HI, H₁, H₂, Hr₀⟩, ⟨HO, HA⟩, Hr₁, HD⟩
    unfold Idle
    icases H₁ with ⟨⟨%f₁, HB₁⟩, Hs₁, HX₁⟩
    icases H₂ with ⟨⟨%f₂, HB₂⟩, Hs₂, HX₂⟩
    isplitl [HX₁ HX₂]
    · iapply share_x.2
      isplitl [HX₁] <;> iassumption
    isplitl [HJ]; · iassumption
    isplitl [HO]; · iassumption
    isplitr [HD]
    · unfold Scratch
      isplitl [HA]
      · iexists _; iexact HA
      isplitl [HB₁ HB₂]
      · iapply (stage_join f₁ f₂)
        isplitl [HB₁] <;> iassumption
      isplitl [HI]
      · iexists _; iexact HI
      isplitl [Hs₁]; · iassumption
      isplitl [Hs₂]; · iassumption
      isplitl [Hr₀] <;> iassumption
    · iassumption
  have hsend : iprop((rowAt d i f ∗ semVal (thr d i, .dma r₁.sem) 0 ∗ jAt d i Finset.univ qj jf ∗ semVal (thr d i, .dma r₀.sem) 0)
      ∗ idsAt d i idf ∗ accAt d i (accAfter xf jf (num i) 64)
      ∗ Idle d i xf 0 inb_S65536_S32768_0 q.left s₁.sem ∗ Idle d i xf 32768 inb_S65536_S32768_32768 q.right s₂.sem ∗ Duty d i O W)
      ⊢ run d i (send aV oV hA r₁) fun x => run d i (kw x) Q := by
    iintro ⟨⟨HO, Hr₁, HJ, Hr₀⟩, HI, HA, H₁, H₂, HD⟩
    unfold send
    iapply (wp_dmaLocal countersEmb Variants.none (thr d i) none (src := aV) (dst := outRow oV i) (sm := .dma r₁.sem)
      (q := fullShare) (fs := accBuf (accAfter xf jf (num i) 64)) (Sd := rowSet i) (fd := f) (default : HIx 1) (outRow oV i).view.dmaCredit rfl
      (View.dmaCredit_pos _ (by decide)) (Finset.Subset.refl _)) $$ [HA HO Hr₁]
    · isplitl [HA]
      · rw [show (aV).view.set = Finset.univ from View.set_whole _]; iexact HA
      isplitl [HO] <;> iassumption
    iintro HF
    iapply (ret_wp (F := F) (U := U) (d := d) (i := i) (Q := fun x => run d i (kw x) Q) hlast)
    isplitl [HJ HI H₁ H₂ Hr₀]
    · isplitl [HJ]; · iassumption
      isplitl [HI]; · iassumption
      isplitl [H₁]; · iassumption
      isplitl [H₂] <;> iassumption
    isplitl [HF]
    · iapply (Flight_mono countersEmb (thr d i) ?_) $$ HF
      refine sep_mono (Entails.of_eq (out_eq f xf jf)) (Entails.of_eq ?_)
      rw [show (aV).view.set = Finset.univ from View.set_whole _]
    · iassumption
  have hmain : iprop((rowAt d i f ∗ semVal (thr d i, .dma r₁.sem) 0 ∗ jAt d i Finset.univ qj jf ∗ semVal (thr d i, .dma r₀.sem) 0
      ∗ idsAt d i idf ∗ Idle d i xf 0 inb_S65536_S32768_0 q.left s₁.sem ∗ Idle d i xf 32768 inb_S65536_S32768_32768 q.right s₂.sem ∗ Duty d i O W)
      ∗ ∃ f, accAt d i f)
      ⊢ run d i (zeros aV >>= fun _ =>
          fetch bV xV 0 inb_S65536_S32768_0 (k0_off3 i 0#32) (k0_off3_inb i 0) s₁ <|
          fetch bV xV 32768 inb_S65536_S32768_32768 (k0_off3 i 128#32) (k0_off3_inb i 1) s₂ <|
          pairs aV bV xV iV s₁ s₂ rows₁ rows₂ >>= fun _ =>
          send aV oV hA r₁) fun x => run d i (kw x) Q := by
    iintro ⟨HR, %fa, HA⟩
    iapply (zeros_wp (F := F) (U := U) (d := d) (i := i) (Q := fun x => run d i (kw x) Q) (R := iprop(rowAt d i f ∗ semVal (thr d i, .dma r₁.sem) 0 ∗ jAt d i Finset.univ qj jf ∗ semVal (thr d i, .dma r₀.sem) 0
      ∗ idsAt d i idf ∗ Idle d i xf 0 inb_S65536_S32768_0 q.left s₁.sem ∗ Idle d i xf 32768 inb_S65536_S32768_32768 q.right s₂.sem ∗ Duty d i O W)) ?_) $$ [HR HA]
    · iintro ⟨⟨HO, Hr₁, HJ, Hr₀, HI, H₁, H₂, HD⟩, HA⟩
      iapply (fetch_wp (F := F) (U := U) (d := d) (i := i) (Q := fun x => run d i (kw x) Q) (n := 0) (q := q.left)
        (R := iprop(((rowAt d i f ∗ semVal (thr d i, .dma r₁.sem) 0 ∗ jAt d i Finset.univ qj jf ∗ semVal (thr d i, .dma r₀.sem) 0)
          ∗ idsAt d i idf ∗ accAt d i (fun _ => Scalar.ofBits .f32 0x00000000#32) ∗ Duty d i O W) ∗ Idle d i xf 32768 inb_S65536_S32768_32768 q.right s₂.sem))
        ((Gen.k0_off3_eq i 0).trans (vec_eq ?_)) ?_) $$ [HO Hr₁ HJ Hr₀ HI H₁ H₂ HD HA]
      · show 4194304 * (i 0).val + 262144 * (i 1).val + 32768 * 0 = 262144 * (16 * (i 0).val + (i 1).val) + 65536 * 0 + 0
        omega
      · iintro ⟨⟨HR, H₂⟩, H₁⟩
        iapply (fetch_wp (F := F) (U := U) (d := d) (i := i) (Q := fun x => run d i (kw x) Q) (n := 0) (q := q.right)
          (R := iprop(((rowAt d i f ∗ semVal (thr d i, .dma r₁.sem) 0 ∗ jAt d i Finset.univ qj jf ∗ semVal (thr d i, .dma r₀.sem) 0)
          ∗ idsAt d i idf ∗ accAt d i (fun _ => Scalar.ofBits .f32 0x00000000#32) ∗ Duty d i O W) ∗ Coming d i xf 0 inb_S65536_S32768_0 q.left s₁.sem 0))
          ((Gen.k0_off3_eq i 1).trans (vec_eq ?_)) ?_) $$ [HR H₁ H₂]
        · show 4194304 * (i 0).val + 262144 * (i 1).val + 32768 * 1 = 262144 * (16 * (i 0).val + (i 1).val) + 65536 * 0 + 32768
          omega
        · iintro ⟨⟨⟨HR, HI, HA, HD⟩, H₁⟩, H₂⟩
          iapply (pairs_wp (F := F) (U := U) (d := d) (i := i) (Q := fun x => run d i (kw x) Q) (kk := fun _ => send aV oV hA r₁) hj hsend)
          isplitl [HR]; · iexact HR
          isplitl [HI]; · iexact HI
          isplitl [HA]
          · rw [accAfter_zero]; iexact HA
          isplitl [H₁]; · iexact H₁
          isplitl [H₂] <;> iassumption
        · isplitl [HR H₁]
          · isplitl [HR] <;> iassumption
          · iassumption
      · isplitr [H₁]
        · isplitr [H₂]
          · isplitl [HO Hr₁ HJ Hr₀]
            · isplitl [HO]; · iassumption
              isplitl [Hr₁]; · iassumption
              isplitl [HJ] <;> iassumption
            isplitl [HI]; · iassumption
            isplitl [HA] <;> iassumption
          · iassumption
        · iassumption
    · isplitl [HR] <;> iassumption
  have hprog : iprop(xAt d i Finset.univ q xf ∗ jAt d i Finset.univ qj jf ∗ rowAt d i f ∗ Scratch d i s₁.sem s₂.sem r₀.sem r₁.sem ∗ Duty d i O W)
      ⊢ run d i (most aV bV xV jV oV iV hI hA s₁ s₂ r₀ r₁ rows₁ rows₂) fun x => run d i (kw x) Q := by
    unfold Scratch
    iintro ⟨HX, HJ, HO, ⟨HA, ⟨%fb, HB⟩, ⟨%fi, HI⟩, Hs₁, Hs₂, Hr₀, Hr₁⟩, HD⟩
    ihave HX' := share_x.1 $$ HX
    icases HX' with ⟨HX₁, HX₂⟩
    ihave HB' := (stage_split fb).1 $$ HB
    icases HB' with ⟨HB₁, HB₂⟩
    ihave HJ' := (pointsTo_split_subset (q := qj) (f := jBuf jf) (S := Finset.univ) (Finset.subset_univ (words jV i).view.set)).1 $$ HJ
    icases HJ' with ⟨HJ, HJ'⟩
    iapply (wp_dmaLocal countersEmb Variants.none (thr d i) none (src := words jV i) (dst := iV) (sm := .dma r₀.sem)
      (q := qj) (fs := jBuf jf) (Sd := Finset.univ) (fd := fi) (default : HIx 1) (iV).view.dmaCredit rfl
      (View.dmaCredit_pos _ (by decide)) (Finset.subset_univ _)) $$ [HJ HI Hr₀]
    · isplitl [HJ]; · iexact HJ
      isplitl [HI] <;> iassumption
    iintro HF
    iapply (wait_wp (F := F) (U := U) (d := d) (i := i) (Q := fun x => run d i (kw x) Q)
      (R := iprop(jAt d i (Finset.univ \ (words jV i).view.set) qj jf ∗ rowAt d i f ∗ (∃ f, (aV).view.loc (thr d i) ↦[Finset.univ]{fullShare} f)
        ∗ Idle d i xf 0 inb_S65536_S32768_0 q.left s₁.sem ∗ Idle d i xf 32768 inb_S65536_S32768_32768 q.right s₂.sem ∗ semVal (thr d i, .dma r₁.sem) 0)) rfl ?_) $$ [HF HJ' HO HA HB₁ HB₂ Hs₁ Hs₂ HX₁ HX₂ Hr₁ HD]
    rotate_left
    · isplitr [HF HD]
      · isplitl [HJ']; · iassumption
        isplitl [HO]; · iassumption
        isplitl [HA]; · iassumption
        unfold Idle
        isplitl [HB₁ Hs₁ HX₁]
        · isplitl [HB₁]
          · iexists _; iassumption
          isplitl [Hs₁] <;> iassumption
        isplitl [HB₂ Hs₂ HX₂]
        · isplitl [HB₂]
          · iexists _; iassumption
          isplitl [Hs₂] <;> iassumption
        iassumption
      isplitl [HF] <;> iassumption
    · iintro ⟨⟨HJ', HO, ⟨%fa, HA⟩, H₁, H₂, Hr₁⟩, ⟨HI, HJ⟩, Hr₀, HD⟩
      ihave HJ := (jAt_join (d := d) (i := i) (words jV i).view.set) $$ [HJ HJ']
      · isplitl [HJ] <;> iassumption
      obtain ⟨ga, rfl⟩ := acc_words fa
      iapply hmain
      isplitr [HA]
      · isplitl [HO]; · iassumption
        isplitl [Hr₁]; · iassumption
        isplitl [HJ]; · iassumption
        isplitl [Hr₀]; · iassumption
        isplitl [HI]
        · rw [in_eq]; iassumption
        isplitl [H₁]; · iassumption
        isplitl [H₂] <;> iassumption
      · iexists ga; iassumption
  refine hprog.trans ?_
  unfold tile
  show _ ⊢ wp _ _ _ (_ >>= kw) Q
  rw [wp_bind]

end Cert.KernelIdeal.Walk
end
-- ==== Proof.Ideal.Launch.lean ====
/-
  The SparseCore call as the launch sees it: what each tile is handed and brings back, the tile's obligation from
  `Whole.lean`, and the call's operands split among the 32 tiles.
-/
module

public import proofs.«01_k».proof.Proof.Ideal.Whole
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Ring

@[expose] public section

noncomputable section

namespace Cert.KernelIdeal.Walk

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Facts₀ Facts

variable {F : FTy → Type}

/-! ## The launch's set-up -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds, the TensorCore call's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ
local notation "aV" => (Memref.whole Cert.KernelIdeal.cc0_scratch2 : Memref Cert.KernelIdeal.sig Kind.scVector Space.vmem Cert.KernelIdeal.S4096 EltTy.f32)
local notation "bV" => (Memref.whole Cert.KernelIdeal.cc0_scratch0 : Memref Cert.KernelIdeal.sig Kind.scVector Space.vmem Cert.KernelIdeal.S65536 EltTy.f32)
local notation "iV" => (Memref.whole Cert.KernelIdeal.cc0_scratch1 : Memref Cert.KernelIdeal.sig Kind.scVector Space.vmem Cert.KernelIdeal.S1024 EltTy.i32)
local notation "xV" => (Memref.whole Cert.KernelIdeal.main_v0_scv : Memref Cert.KernelIdeal.sig Kind.scVector Space.hbm Cert.KernelIdeal.S8388608 EltTy.f32)
local notation "jV" => (Memref.whole Cert.KernelIdeal.main_arg1_scv : Memref Cert.KernelIdeal.sig Kind.scVector Space.hbm Cert.KernelIdeal.S32768 EltTy.i32)
local notation "oV" => (Memref.whole Cert.KernelIdeal.main_v1_scv : Memref Cert.KernelIdeal.sig Kind.scVector Space.hbm Cert.KernelIdeal.S32x4096 EltTy.f32)

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## What the tiles are handed -/

abbrev xLoc (d : Dev nD) : Loc nD τ sig := (SparseCore.T d).loc main_v0
abbrev jLoc (d : Dev nD) : Loc nD τ sig := (SparseCore.T d).loc main_arg1
abbrev oLoc (d : Dev nD) : Loc nD τ sig := (SparseCore.T d).loc main_v1

/-- Row `w` of the partial maxima. -/
def rowOf (w : ℕ) : Finset S32x4096.Idx := Finset.univ.filter fun x => (x 0).val = w

variable (xf : Dev nD → ℕ → F .f32) (jf : Dev nD → ℕ → BitVec 32) (of : Dev nD → S32x4096.Idx → Elt F .f32)

/-- Tile `w`'s part of the call: a read share of the features and of the ids, and its row of the partial maxima at `f`. -/
abbrev part (d : Dev nD) (f : S32x4096.Idx → Elt F .f32) (w : ℕ) : sProp 𝕄 :=
  iprop((xLoc d ↦{shareTokN fullShare w} xBuf (xf d)) ∗ (jLoc d ↦{shareTokN fullShare w} jBuf (jf d)) ∗ oLoc d ↦[rowOf w]{fullShare} f)

variable [FloatOps F]

/-- The one call: each core takes and brings back its sixteen tiles' parts. -/
def P : (K (F := F)).Pay (nD := nD) (Val := Elt F) (Name := ℕ) (U := UU) where
  st := fun q d c => match q with | 0 => bigSep Finset.univ fun i : Fin ((K (F := F)).nSub 0) => part xf jf d (of d) (16 * c.val + i.val)
  dn := fun q d c => match q with | 0 => bigSep Finset.univ fun i : Fin ((K (F := F)).nSub 0) => part xf jf d (pBuf (xf d) (jf d)) (16 * c.val + i.val)
  go := fun q d c i => match q with | 0 => part xf jf d (of d) (16 * c.val + i.val)
  td := fun q d c i => match q with | 0 => part xf jf d (pBuf (xf d) (jf d)) (16 * c.val + i.val)
  x := fun _ _ => iprop(emp)

instance P_storable : (P (F := F) xf jf of).IsStorable where
  st q d c := match q with
    | 0 => (inferInstance : BI.Storable (upEmb : UEmb _ 𝕄) (bigSep Finset.univ fun i : Fin ((K (F := F)).nSub 0) => part xf jf d (of d) (16 * c.val + i.val)))
  dn q d c := match q with
    | 0 => (inferInstance : BI.Storable (upEmb : UEmb _ 𝕄)
      (bigSep Finset.univ fun i : Fin ((K (F := F)).nSub 0) => part xf jf d (pBuf (xf d) (jf d)) (16 * c.val + i.val)))
  go q d c i := match q with
    | 0 => (inferInstance : BI.Storable (upEmb : UEmb _ 𝕄) (part xf jf d (of d) (16 * c.val + i.val)))
  td q d c i := match q with
    | 0 => (inferInstance : BI.Storable (upEmb : UEmb _ 𝕄) (part xf jf d (pBuf (xf d) (jf d)) (16 * c.val + i.val)))

/-! ## The tile -/

section Tile

variable (d : Dev nD) (L : grid0.Coords)

omit [FloatOps F] in
/-- The tile's semaphores: the four of its transfers, and the rest. -/
theorem own_sems : ∃ R : sProp 𝕄, (ownSems0 (thr d L) : sProp 𝕄)
    = iprop(semVal (thr d L, .dma cc0_scratch3.sem) 0 ∗ semVal (thr d L, .dma cc0_scratch4.sem) 0
        ∗ semVal (thr d L, .dma cc0_scoped0.sem) 0 ∗ semVal (thr d L, .dma cc0_scoped1.sem) 0 ∗ R) := by
  have mem : ∀ s : DmaSem sig, (SemLoc.dma s : SemLoc sig).isScoped .scVector = true → ((thr d L, .dma s) : GSem nD τ sig) ∈ ownCells (thr d L) :=
    fun s h => mem_ownCells.mpr ⟨rfl, h⟩
  have ne : ∀ {s s' : DmaSem sig}, s ≠ s' → ((thr d L, .dma s) : GSem nD τ sig) ≠ (thr d L, .dma s') :=
    fun h e => h (SemLoc.dma.inj (Prod.mk.inj e).2)
  have h := SparseCore.bigSep_erase' (Φ := fun g => (semVal g 0 : sProp 𝕄)) (mem cc0_scratch3.sem (by decide))
  rw [SparseCore.bigSep_erase' (Finset.mem_erase.mpr ⟨ne (s := cc0_scratch4.sem) (s' := cc0_scratch3.sem) (by decide), mem cc0_scratch4.sem (by decide)⟩),
    SparseCore.bigSep_erase' (Finset.mem_erase.mpr ⟨ne (s := cc0_scoped0.sem) (s' := cc0_scratch4.sem) (by decide),
      Finset.mem_erase.mpr ⟨ne (s := cc0_scoped0.sem) (s' := cc0_scratch3.sem) (by decide), mem cc0_scoped0.sem (by decide)⟩⟩),
    SparseCore.bigSep_erase' (Finset.mem_erase.mpr ⟨ne (s := cc0_scoped1.sem) (s' := cc0_scoped0.sem) (by decide),
      Finset.mem_erase.mpr ⟨ne (s := cc0_scoped1.sem) (s' := cc0_scratch4.sem) (by decide),
        Finset.mem_erase.mpr ⟨ne (s := cc0_scoped1.sem) (s' := cc0_scratch3.sem) (by decide), mem cc0_scoped1.sem (by decide)⟩⟩⟩)] at h
  exact ⟨_, h⟩

omit [FloatOps F] in
/-- The tile's buffers: the three of its scratch, and the rest. -/
theorem own_bufs : ∃ R : sProp 𝕄, (ownBufs (thr d L) : sProp 𝕄)
    = iprop((∃ f, (aV).view.loc (thr d L) ↦[Finset.univ]{fullShare} f) ∗ (∃ f, (bV).view.loc (thr d L) ↦[Finset.univ]{fullShare} f)
        ∗ (∃ f, (iV).view.loc (thr d L) ↦[Finset.univ]{fullShare} f) ∗ R) := by
  let p : Proc τ := .scVector ((L 0).castLE hcore0) ((L 1).castLE hsub0)
  have ne : ∀ {b b' : Ref sig .scVector}, b ≠ b' → p.devRef b ≠ p.devRef b' := fun h e => h (Proc.devRef_injective _ e)
  have h := SparseCore.bigSep_erase' (Φ := fun b => (iprop(∃ f, ((d, b) : Loc nD τ sig) ↦{fullShare} f) : sProp 𝕄))
    (SparseCore.Cfg.mem_ownRefs_of_owner (p := p) (b := p.devRef cc0_scratch2) rfl)
  rw [SparseCore.bigSep_erase' (Finset.mem_erase.mpr ⟨ne (b := cc0_scratch0) (b' := cc0_scratch2) (by decide),
      SparseCore.Cfg.mem_ownRefs_of_owner (p := p) (b := p.devRef cc0_scratch0) rfl⟩),
    SparseCore.bigSep_erase' (Finset.mem_erase.mpr ⟨ne (b := cc0_scratch1) (b' := cc0_scratch0) (by decide),
      Finset.mem_erase.mpr ⟨ne (b := cc0_scratch1) (b' := cc0_scratch2) (by decide),
        SparseCore.Cfg.mem_ownRefs_of_owner (p := p) (b := p.devRef cc0_scratch1) rfl⟩⟩)] at h
  exact ⟨_, h⟩

theorem rowSet_eq : rowSet L = rowOf (num L) := by
  ext x
  rw [mem_rowSet, rowOf, Finset.mem_filter]
  exact ⟨fun h => ⟨Finset.mem_univ _, h⟩, fun h => h.2⟩

theorem part_eq (f : S32x4096.Idx → Elt F .f32) : (part xf jf d f (num L) : sProp 𝕄)
    = iprop(xAt d L Finset.univ (shareTokN fullShare (num L)) (xf d) ∗ jAt d L Finset.univ (shareTokN fullShare (num L)) (jf d) ∗ rowAt d L f) := by
  unfold part rowAt
  rw [rowSet_eq]

set_option maxHeartbeats 1000000 in
/-- The tile's program, from its part of the call, its scratch and what it owes. -/
theorem tile_body (hj : ∀ d p, (jf d p).toNat < 16) (O : CellTallies nD τ sig (HIx 1)) (W : Waits sig (HIx 1)) (hO : ∀ g, O g none = 0) :
    iprop(levAts (K (F := F)).L (K (F := F)).lev ∗ emp ∗ part xf jf d (of d) (num L)
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) jV (Memref.isWhole_whole _) oV (Memref.isWhole_whole _) bV (Memref.isWhole_whole _)
            iV (Memref.isWhole_whole _) aV (Memref.isWhole_whole _) cc0_scratch3 cc0_scratch4 cc0_scoped0 cc0_scoped1)
          fun _ => (iprop(part xf jf d (pBuf (xf d) (jf d)) (num L) ∗ scopedBufs (thr d L) ∗ scopedSems0 (thr d L)
            ∗ ∃ W', ⌜∀ p ∈ W', p ∈ W ∨ p.2 = none ∨ p.2 = some (0 : Fin 1)⌝ ∗ owes (thr d L) O W') : sProp 𝕄) := by
  obtain ⟨R₁, h₁⟩ := own_sems (F := F) d L
  obtain ⟨R₂, h₂⟩ := own_bufs (F := F) d L
  rw [(K (F := F)).scopedBufs_V launchFacts d ((L 0).castLE hcore0) ((L 1).castLE hsub0),
    SparseCore.Cfg.scopedSems0_V (Val := Elt F) d ((L 0).castLE hcore0) ((L 1).castLE hsub0), part_eq, part_eq]
  rw [show (ownSems0 (V d ((L 0).castLE hcore0) ((L 1).castLE hsub0)) : sProp 𝕄) = _ from h₁,
    show (ownBufs (V d ((L 0).castLE hcore0) ((L 1).castLE hsub0)) : sProp 𝕄) = _ from h₂]
  rw [body_eq (hb₁ := rows₁) (hb₂ := rows₂)]
  let Q₀ : PUnit.{1} → sProp 𝕄 := fun _ => iprop(xAt d L Finset.univ (shareTokN fullShare (num L)) (xf d)
    ∗ jAt d L Finset.univ (shareTokN fullShare (num L)) (jf d) ∗ rowAt d L (pBuf (xf d) (jf d))
    ∗ Scratch d L cc0_scratch3.sem cc0_scratch4.sem cc0_scoped0.sem cc0_scoped1.sem ∗ Duty d L O W)
  have H := tile_wp (F := F) (U := UU) (d := d) (i := L) (xf := xf d) (jf := jf d) (hj d) (q := shareTokN fullShare (num L)) (qj := shareTokN fullShare (num L))
    (s₁ := cc0_scratch3) (s₂ := cc0_scratch4) (r₀ := cc0_scoped0) (r₁ := cc0_scoped1) (hI := Memref.isWhole_whole _) (hA := Memref.isWhole_whole _)
    (O := O) (W := W) (of d)
  refine BIBase.Entails.trans ?_ ((sep_mono_left H).trans ((wp_frame_r (R := iprop(R₁ ∗ R₂)) _ _ _).trans (wp_mono frame _ _ fun _ => ?_)))
  · iintro ⟨#Hlv, -, ⟨HX, HJ, Ho⟩, ⟨HA, HB, HI, HR₂⟩, ⟨Hs₁, Hs₂, Hr₀, Hr₁, HR₁⟩, HO⟩
    ihave Hmw := (show levAts (K (F := F)).L (K (F := F)).lev ⊢ MayWaits (thr d L) (default : HIx 1) O from
      (K (F := F)).mayWaits_none (thr := thr d L) hO) $$ Hlv
    unfold Scratch Duty
    isplitr [HR₁ HR₂]
    · isplitl [HX]; · iexact HX
      isplitl [HJ]; · iexact HJ
      isplitl [Ho]; · iexact Ho
      isplitr [Hmw HO]
      · isplitl [HA]; · iexact HA
        isplitl [HB]; · iexact HB
        isplitl [HI]; · iexact HI
        isplitl [Hs₁]; · iexact Hs₁
        isplitl [Hs₂]; · iexact Hs₂
        isplitl [Hr₀]; · iexact Hr₀
        iexact Hr₁
      isplitl [Hmw]; · iexact Hmw
      iexists W
      isplitr; · ipureintro; exact fun p hp => .inl hp
      iexact HO
    · isplitl [HR₁] <;> iassumption
  · unfold Scratch Duty
    iintro ⟨⟨HX, HJ, Ho, ⟨HA, HB, HI, Hs₁, Hs₂, Hr₀, Hr₁⟩, ⟨-, %W', %hW, HO⟩⟩, HR₁, HR₂⟩
    isplitl [HX HJ Ho]
    · isplitl [HX]; · iexact HX
      isplitl [HJ]; · iexact HJ
      iexact Ho
    isplitl [HA HB HI HR₂]
    · isplitl [HA]; · iexact HA
      isplitl [HB]; · iexact HB
      isplitl [HI]; · iexact HI
      iexact HR₂
    isplitl [Hs₁ Hs₂ Hr₀ Hr₁ HR₁]
    · isplitl [Hs₁]; · iexact Hs₁
      isplitl [Hs₂]; · iexact Hs₂
      isplitl [Hr₀]; · iexact Hr₀
      isplitl [Hr₁]; · iexact Hr₁
      iexact HR₁
    iexists W'
    isplitr; · ipureintro; exact fun p hp => (hW p hp).imp_right Or.inl
    iexact HO

def coords (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coords c s)
          xV (Memref.isWhole_whole _) jV (Memref.isWhole_whole _) oV (Memref.isWhole_whole _) bV (Memref.isWhole_whole _)
          iV (Memref.isWhole_whole _) aV (Memref.isWhole_whole _) cc0_scratch3 cc0_scratch4 cc0_scoped0 cc0_scoped1) ⟨⟩ c s := rfl

set_option maxRecDepth 16384 in
/-- The tile's obligation to the launch. -/
theorem tileObl (hj : ∀ d p, (jf d p).toNat < 16) : (K (F := F)).TileObl (D (F := F)) 𝒱 (P xf jf of) v₀ 0 := by
  intro d c i O W hO _ _
  simp only [show (P xf jf of).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body xf jf of d (coords ⟨_, hci.1⟩ ⟨_, hci.2⟩) hj O W hO

end Tile

/-- A core's operands are its tiles'. -/
theorem vecSplit : (K (F := F)).VecSplit' (P xf jf of) 0 := by
  intro d c
  show iprop(bigSep Finset.univ fun i : Fin ((K (F := F)).nSub 0) => part xf jf d (of d) (16 * c.val + i.val)) ⊢ |={Set.univ}=> iprop(
      (bigSep Finset.univ fun i : Fin ((K (F := F)).nSub 0) => part xf jf d (of d) (16 * c.val + i.val))
      ∗ ((bigSep Finset.univ fun i : Fin ((K (F := F)).nSub 0) => part xf jf d (pBuf (xf d) (jf d)) (16 * c.val + i.val))
          -∗ bigSep Finset.univ fun i : Fin ((K (F := F)).nSub 0) => part xf jf d (pBuf (xf d) (jf d)) (16 * c.val + i.val)))
  iintro H
  imodintro
  isplitl [H]; · iexact H
  iintro H
  iexact H

/-! ## All tiles' parts -/

omit [FloatOps F] in
/-- The cores' tiles, numbered through. -/
theorem all_tiles (Φ : ℕ → sProp 𝕄) :
    (bigSep Finset.univ fun c : Fin ((K (F := F)).nCore 0) => bigSep Finset.univ fun i : Fin ((K (F := F)).nSub 0) => Φ (16 * c.val + i.val))
      = bigSep (Finset.range 32) Φ := by
  show (bigSep Finset.univ fun c : Fin 2 => bigSep Finset.univ fun i : Fin 16 => Φ (16 * c.val + i.val)) = _
  rw [← bigSep_univ_prod (fun p : Fin 2 × Fin 16 => Φ (16 * p.1.val + p.2.val)),
    ← Ring.bigSep_fin_eq_range 32 (fun t => Φ t.val) Φ (fun _ _ => rfl), bigSep_univ_equiv (finProdFinEquiv : Fin 2 × Fin 16 ≃ Fin 32)]
  exact bigSep_congr fun p _ => congrArg Φ (Nat.add_comm _ _)

theorem rowOf_disjoint : ∀ v ∈ Finset.range 32, ∀ w ∈ Finset.range 32, v ≠ w → Disjoint (rowOf v) (rowOf w) :=
  fun v _ w _ h => Finset.disjoint_left.2 fun x hv hw => h ((Finset.mem_filter.1 hv).2.symm.trans (Finset.mem_filter.1 hw).2)

theorem rowOf_cover : (Finset.range 32).biUnion rowOf = Finset.univ :=
  Finset.eq_univ_iff_forall.2 fun x => Finset.mem_biUnion.2
    ⟨(x 0).val, Finset.mem_range.2 (show (x 0).val < 32 from (x 0).isLt), Finset.mem_filter.2 ⟨Finset.mem_univ _, rfl⟩⟩

omit [FloatOps F] in
theorem rows_whole (d : Dev nD) (f : S32x4096.Idx → Elt F .f32) :
    (oLoc d ↦{fullShare} f : sProp 𝕄) = bigSep (Finset.range 32) fun w => oLoc d ↦[rowOf w]{fullShare} f := by
  rw [← pointsTo_biUnion (Finset.range 32) (ℓ := oLoc d) rowOf rowOf_disjoint, rowOf_cover]

/-- What is left of the features and of the ids beside the tiles' shares. -/
abbrev kept (d : Dev nD) : sProp 𝕄 :=
  iprop((xLoc d ↦{shareDrop fullShare 32} xBuf (xf d)) ∗ jLoc d ↦{shareDrop fullShare 32} jBuf (jf d))

/-- The features, the ids and the partial maxima whole are all the tiles' parts and what is kept. -/
theorem parts_iff (d : Dev nD) (f : S32x4096.Idx → Elt F .f32) :
    iprop((xLoc d ↦{fullShare} xBuf (xf d)) ∗ (jLoc d ↦{fullShare} jBuf (jf d)) ∗ oLoc d ↦{fullShare} f)
      ⊣⊢ (iprop(kept xf jf d ∗ bigSep (Finset.range 32) (part xf jf d f)) : sProp 𝕄) := by
  have hx := pointsTo_toks_range (nD := nD) (τ := τ) (sig := sig) (Ix := HIx 1) (Val := Elt F) (Name := ℕ) (U := UU) (Lvl := ℕ)
    (ℓ := xLoc d) (S := Finset.univ) (f := xBuf (xf d)) fullShare 32
  have hj := pointsTo_toks_range (nD := nD) (τ := τ) (sig := sig) (Ix := HIx 1) (Val := Elt F) (Name := ℕ) (U := UU) (Lvl := ℕ)
    (ℓ := jLoc d) (S := Finset.univ) (f := jBuf (jf d)) fullShare 32
  have e : (bigSep (Finset.range 32) (part xf jf d f) : sProp 𝕄)
      = iprop((bigSep (Finset.range 32) fun w => xLoc d ↦{shareTokN fullShare w} xBuf (xf d))
        ∗ (bigSep (Finset.range 32) fun w => jLoc d ↦{shareTokN fullShare w} jBuf (jf d))
        ∗ bigSep (Finset.range 32) fun w => oLoc d ↦[rowOf w]{fullShare} f) := by
    rw [← bigSep_sep', ← bigSep_sep']
  rw [e, rows_whole]
  constructor
  · iintro ⟨HX, HJ, HO⟩
    ihave HX' := hx.1 $$ HX
    ihave HJ' := hj.1 $$ HJ
    icases HX' with ⟨HXk, HX⟩
    icases HJ' with ⟨HJk, HJ⟩
    isplitl [HXk HJk]; · isplitl [HXk] <;> iassumption
    isplitl [HX]; · iexact HX
    isplitl [HJ] <;> iassumption
  · iintro ⟨⟨HXk, HJk⟩, HX, HJ, HO⟩
    isplitl [HXk HX]
    · iapply hx.2
      isplitl [HXk] <;> iassumption
    isplitl [HJk HJ]
    · iapply hj.2
      isplitl [HJk] <;> iassumption
    iexact HO

end Cert.KernelIdeal.Walk
end
-- ==== Proof.Ideal.Region.lean ====
/-
  The TensorCore call: its body run on the staged blocks, its proof data at any contents of the arrays, and the
  region over the TensorCore's unscoped buffers. The first result is the maximum over the 32 partial rows, the second
  the projection head of it, both as functions of what the call is given.
-/
module

public import proofs.«01_k».proof.Proof.Ideal.Launch
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions
public import Idealize.ShloMosaic.Lib.Pipeline.ValueKit
public import Idealize.ShloMosaic.Lib.Tactic

@[expose] public section

noncomputable section

namespace Cert.KernelIdeal.Walk

open Cert.KernelIdeal.Gen
open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.Pipeline (Dat Cfg Window BodyObligation cellOf)
open Facts₀ Facts

variable {F : FTy → Type} [FloatOps F] [∀ e, Nonempty (Elt F e)]

local notation "𝕄" => MT nD τ sig (HIx 1) (Elt F) ℕ UU ℕ

/-! ## The body -/

/-- Buffer `b` of core `c` held whole at `f`. -/
abbrev tcAt (c : Dev nD) (b : Ref sig .tc) (f : b.ty.Contents (Elt F)) : sProp 𝕄 :=
  (Memref.whole b).view.loc (c : Thread nD τ) ↦{fullShare} f

theorem load_whole (b : Ref sig .tc) (f : b.ty.Contents (Elt F)) (off : Fin b.ty.shape.rank → ℕ)
    (inb : ∀ a, off a + b.ty.shape.size a ≤ b.ty.shape.size a) :
    (Memref.whole b).view.readAt (Elt F) (Rect.unit (s := b.ty.shape) off b.ty.shape.size inb).toLoadRect f = f := by
  have h : off = fun _ => 0 := funext fun a => by have := inb a; omega
  subst h
  exact Memref.readAt_whole (Elt F) b f

theorem store_whole (b : Ref sig .tc) (f w : b.ty.Contents (Elt F)) (off : Fin b.ty.shape.rank → ℕ)
    (inb : ∀ a, off a + b.ty.shape.size a ≤ b.ty.shape.size a) :
    ((Memref.whole b).access (Rect.unit (s := b.ty.shape) off b.ty.shape.size inb)).write (Elt F) f w Finset.univ = w := by
  have h : off = fun _ => 0 := funext fun a => by have := inb a; omega
  subst h
  exact Memref.write_access_whole_univ (Elt F) b f w

/-- The pooled maxima the body stores, from the partial ones. -/
@[irreducible] def pooled (x0 : Vec F S32x16x256 .f32) : FVec F S16x256 .f32 := k1_pay2 x0

/-- The projection it stores. -/
@[irreducible] def head (x0 : Vec F S32x16x256 .f32) (x1 : Vec F S256x256 .f32) (x2 x3 : Vec F S1x256 .f32) (x4 : Vec F S128x256 .f32)
    (x5 : Vec F S1x128 .f32) : FVec F S16x128 .f32 := k1_pay1 (k1_pay3 x0 x1 x2 x3 x4) x5

def bodyRun (c : Dev nD) (x0 : Vec F S32x16x256 .f32) (x1 : Vec F S256x256 .f32) (x2 x3 : Vec F S1x256 .f32) (x4 : Vec F S128x256 .f32)
    (x5 : Vec F S1x128 .f32) (f6 : FVec F S16x256 .f32) (f7 : FVec F S16x128 .f32) :
    { W : FVec F S16x256 .f32 × FVec F S16x128 .f32 // ∀ (E : Set ℕ) (Q : PUnit → sProp 𝕄),
    iprop(tcAt c cc1_stg0_0 x0 ∗ tcAt c cc1_stg1_0 x1 ∗ tcAt c cc1_stg2_0 x2 ∗ tcAt c cc1_stg3_0 x3 ∗ tcAt c cc1_stg4_0 x4
        ∗ tcAt c cc1_stg5_0 x5 ∗ tcAt c cc1_stg6_0 f6 ∗ tcAt c cc1_stg7_0 f7
        ∗ (iprop(tcAt c cc1_stg0_0 x0 ∗ tcAt c cc1_stg1_0 x1 ∗ tcAt c cc1_stg2_0 x2 ∗ tcAt c cc1_stg3_0 x3 ∗ tcAt c cc1_stg4_0 x4
          ∗ tcAt c cc1_stg5_0 x5 ∗ tcAt c cc1_stg6_0 W.1 ∗ tcAt c cc1_stg7_0 W.2) -∗ Q ⟨⟩))
      ⊢ wp frame (wpE (defs₀ (F := F)) Variants.none c none) E (bodyAt1 t1_0) Q } := by
  refine ⟨(?_, ?_), fun E Q => ?run⟩
  case run =>
    unfold bodyAt1
    rw [cc1__tc_body_eq_skeleton]
    unfold cc1__tc_body_skel
    rw [k1_part1_eq_skeleton]
    unfold k1_part1_skel
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

set_option maxRecDepth 65536 in
theorem bodyRun_val (c : Dev nD) (x0 : Vec F S32x16x256 .f32) (x1 : Vec F S256x256 .f32) (x2 x3 : Vec F S1x256 .f32) (x4 : Vec F S128x256 .f32)
    (x5 : Vec F S1x128 .f32) (f6 : FVec F S16x256 .f32) (f7 : FVec F S16x128 .f32) :
    (bodyRun c x0 x1 x2 x3 x4 x5 f6 f7).1 = (pooled x0, head x0 x1 x2 x3 x4 x5) := by
  unfold bodyRun
  dsimp only
  unfold bodyRun.sl.H6_1 bodyRun.sl.H7_1
  have e0 : View.readAt (Elt F) (Memref.whole cc1_stg0_0).view (Rect.unit ![0, 0, 0] S32x16x256.size Gen.inb_S32x16x256_S32x16x256_0_0_0).toLoadRect x0 = x0 :=
    load_whole cc1_stg0_0 x0 ![0, 0, 0] _
  have e1 : View.readAt (Elt F) (Memref.whole cc1_stg1_0).view (Rect.unit ![0, 0] S256x256.size Gen.inb_S256x256_S256x256_0_0).toLoadRect x1 = x1 :=
    load_whole cc1_stg1_0 x1 ![0, 0] _
  have e2 : View.readAt (Elt F) (Memref.whole cc1_stg2_0).view (Rect.unit ![0, 0] S1x256.size Gen.inb_S1x256_S1x256_0_0).toLoadRect x2 = x2 :=
    load_whole cc1_stg2_0 x2 ![0, 0] _
  have e3 : View.readAt (Elt F) (Memref.whole cc1_stg3_0).view (Rect.unit ![0, 0] S1x256.size Gen.inb_S1x256_S1x256_0_0).toLoadRect x3 = x3 :=
    load_whole cc1_stg3_0 x3 ![0, 0] _
  have e4 : View.readAt (Elt F) (Memref.whole cc1_stg4_0).view (Rect.unit ![0, 0] S128x256.size Gen.inb_S128x256_S128x256_0_0).toLoadRect x4 = x4 :=
    load_whole cc1_stg4_0 x4 ![0, 0] _
  have e5 : View.readAt (Elt F) (Memref.whole cc1_stg5_0).view (Rect.unit ![0, 0] S1x128.size Gen.inb_S1x128_S1x128_0_0).toLoadRect x5 = x5 :=
    load_whole cc1_stg5_0 x5 ![0, 0] _
  rw [e0, e1, e2, e3, e4, e5, View.writes_singleton, View.writes_singleton]
  rw [show k1_pay2 x0 = pooled x0 by unfold pooled; rfl, show k1_pay1 (k1_pay3 x0 x1 x2 x3 x4) x5 = head x0 x1 x2 x3 x4 x5 by unfold head; rfl]
  generalize pooled x0 = p
  generalize head x0 x1 x2 x3 x4 x5 = q
  have h6 := fun j => store_whole (F := F) cc1_stg6_0 j p ![0, 0] Gen.inb_S16x256_S16x256_0_0
  have h7 := fun j => store_whole (F := F) cc1_stg7_0 j q ![0, 0] Gen.inb_S16x128_S16x128_0_0
  exact Prod.ext (h6 _) (h7 _)

set_option maxRecDepth 65536 in
/-- From the eight staging buffers held whole the body runs, leaving the six operands' as they were and the two
    results' at the pooled maxima and the projection. -/
theorem body_wp (c : Dev nD) (x0 : Vec F S32x16x256 .f32) (x1 : Vec F S256x256 .f32) (x2 x3 : Vec F S1x256 .f32) (x4 : Vec F S128x256 .f32)
    (x5 : Vec F S1x128 .f32) (f6 : FVec F S16x256 .f32) (f7 : FVec F S16x128 .f32) (E : Set ℕ) (Q : PUnit → sProp 𝕄) :
    iprop(tcAt c cc1_stg0_0 x0 ∗ tcAt c cc1_stg1_0 x1 ∗ tcAt c cc1_stg2_0 x2 ∗ tcAt c cc1_stg3_0 x3 ∗ tcAt c cc1_stg4_0 x4
        ∗ tcAt c cc1_stg5_0 x5 ∗ tcAt c cc1_stg6_0 f6 ∗ tcAt c cc1_stg7_0 f7
        ∗ (iprop(tcAt c cc1_stg0_0 x0 ∗ tcAt c cc1_stg1_0 x1 ∗ tcAt c cc1_stg2_0 x2 ∗ tcAt c cc1_stg3_0 x3 ∗ tcAt c cc1_stg4_0 x4
          ∗ tcAt c cc1_stg5_0 x5 ∗ tcAt c cc1_stg6_0 (pooled x0) ∗ tcAt c cc1_stg7_0 (head x0 x1 x2 x3 x4 x5)) -∗ Q ⟨⟩))
      ⊢ wp frame (wpE (defs₀ (F := F)) Variants.none c none) E (bodyAt1 t1_0) Q := by
  have h := (bodyRun c x0 x1 x2 x3 x4 x5 f6 f7).2 E Q
  rw [bodyRun_val] at h
  dsimp only at h
  exact h

/-! ## The proof data, at any contents of the buffers -/

variable (V : (c : Dev nD) → (b : Ref sig .tc) → Buf (Elt F) ((c : Thread nD τ).loc b))

/-- What the two results' arrays hold afterwards. -/
def out0 (c : Dev nD) : FVec F S16x256 .f32 := pooled (F := F) (V c main_v2)
def out1 (c : Dev nD) : FVec F S16x128 .f32 :=
  head (F := F) (V c main_v2) (V c main_arg2) (V c main_v3) (V c main_v4) (V c main_arg5) (V c main_v5)

/-- The buffers' contents afterwards. -/
def afterTc (c : Dev nD) (b : Ref sig .tc) : Buf (Elt F) ((c : Thread nD τ).loc b) :=
  if h : b = main_v6_0 then h ▸ out0 V c else if h : b = main_v6_1 then h ▸ out1 V c else V c b

theorem afterTc_0 (c : Dev nD) : afterTc V c main_v6_0 = out0 V c := by unfold afterTc; rw [dif_pos rfl]
theorem afterTc_1 (c : Dev nD) : afterTc V c main_v6_1 = out1 V c := by
  unfold afterTc; rw [dif_neg (by decide), dif_pos rfl]
theorem afterTc_ne (c : Dev nD) (b : Ref sig .tc) (h0 : b ≠ main_v6_0) (h1 : b ≠ main_v6_1) : afterTc V c b = V c b := by
  unfold afterTc; rw [dif_neg h0, dif_neg h1]

/-- The blocks the fetches stage: the arrays, read through the windows' blocks. -/
abbrev stg0 (c : Dev nD) : (cfg1.win 0).block.Idx → Elt F (cfg1.win 0).elt := ((cfg1.win 0).blk t1_0).view.read (Elt F) (V c main_v2)
abbrev stg1 (c : Dev nD) : (cfg1.win 1).block.Idx → Elt F (cfg1.win 1).elt := ((cfg1.win 1).blk t1_0).view.read (Elt F) (V c main_arg2)
abbrev stg2 (c : Dev nD) : (cfg1.win 2).block.Idx → Elt F (cfg1.win 2).elt := ((cfg1.win 2).blk t1_0).view.read (Elt F) (V c main_v3)
abbrev stg3 (c : Dev nD) : (cfg1.win 3).block.Idx → Elt F (cfg1.win 3).elt := ((cfg1.win 3).blk t1_0).view.read (Elt F) (V c main_v4)
abbrev stg4 (c : Dev nD) : (cfg1.win 4).block.Idx → Elt F (cfg1.win 4).elt := ((cfg1.win 4).blk t1_0).view.read (Elt F) (V c main_arg5)
abbrev stg5 (c : Dev nD) : (cfg1.win 5).block.Idx → Elt F (cfg1.win 5).elt := ((cfg1.win 5).blk t1_0).view.read (Elt F) (V c main_v5)

theorem stg0_eq (c : Dev nD) : stg0 V c = V c main_v2 := by
  funext x
  show V c main_v2 (((cfg1.win 0).rect t1_0).emb x) = V c main_v2 x
  exact congrArg _ (funext fun a => Fin.ext (Pipeline.Window.rect_emb_val_of_index_zero _ _ a (by revert a; decide +kernel) x))

theorem stg1_eq (c : Dev nD) : stg1 V c = V c main_arg2 := by
  funext x
  show V c main_arg2 (((cfg1.win 1).rect t1_0).emb x) = V c main_arg2 x
  exact congrArg _ (funext fun a => Fin.ext (Pipeline.Window.rect_emb_val_of_index_zero _ _ a (by revert a; decide +kernel) x))

theorem stg2_eq (c : Dev nD) : stg2 V c = V c main_v3 := by
  funext x
  show V c main_v3 (((cfg1.win 2).rect t1_0).emb x) = V c main_v3 x
  exact congrArg _ (funext fun a => Fin.ext (Pipeline.Window.rect_emb_val_of_index_zero _ _ a (by revert a; decide +kernel) x))

theorem stg3_eq (c : Dev nD) : stg3 V c = V c main_v4 := by
  funext x
  show V c main_v4 (((cfg1.win 3).rect t1_0).emb x) = V c main_v4 x
  exact congrArg _ (funext fun a => Fin.ext (Pipeline.Window.rect_emb_val_of_index_zero _ _ a (by revert a; decide +kernel) x))

theorem stg4_eq (c : Dev nD) : stg4 V c = V c main_arg5 := by
  funext x
  show V c main_arg5 (((cfg1.win 4).rect t1_0).emb x) = V c main_arg5 x
  exact congrArg _ (funext fun a => Fin.ext (Pipeline.Window.rect_emb_val_of_index_zero _ _ a (by revert a; decide +kernel) x))

theorem stg5_eq (c : Dev nD) : stg5 V c = V c main_v5 := by
  funext x
  show V c main_v5 (((cfg1.win 5).rect t1_0).emb x) = V c main_v5 x
  exact congrArg _ (funext fun a => Fin.ext (Pipeline.Window.rect_emb_val_of_index_zero _ _ a (by revert a; decide +kernel) x))

/-- The pairs the core may have waited at before the call: at levels no later than the first SparseCore call's. -/
abbrev rec (c : Dev nD) : Set (SemLoc sig × HIx 1) := {p | (K (F := F)).lev (T c, p.1) p.2 ≤ 8 * 1}

/-- The region's proof data: the arrays at `V`; afterwards the operands' staging buffers as fetched and the results' at
    the body's values; nothing owed, full shares. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => out0 V c
    | ⟨7, _⟩ => out1 V c
  Φ _ := Pipeline.scopedRest spec1 c
  q _ := fullShare
  owed _ := 0
  recorded _ := rec (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before0 (c : Dev nD) (d) : (dat V c).before 0 t1_0 d = stg0 V c := by unfold Dat.before; rw [if_pos (by decide)]; rfl
theorem before1 (c : Dev nD) (d) : (dat V c).before 1 t1_0 d = stg1 V c := by unfold Dat.before; rw [if_pos (by decide)]; rfl
theorem before2 (c : Dev nD) (d) : (dat V c).before 2 t1_0 d = stg2 V c := by unfold Dat.before; rw [if_pos (by decide)]; rfl
theorem before3 (c : Dev nD) (d) : (dat V c).before 3 t1_0 d = stg3 V c := by unfold Dat.before; rw [if_pos (by decide)]; rfl
theorem before4 (c : Dev nD) (d) : (dat V c).before 4 t1_0 d = stg4 V c := by unfold Dat.before; rw [if_pos (by decide)]; rfl
theorem before5 (c : Dev nD) (d) : (dat V c).before 5 t1_0 d = stg5 V c := by unfold Dat.before; rw [if_pos (by decide)]; rfl

theorem body_obligation (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.castSucc = Pipeline.scopedRest spec1 c from rfl, show (dat V c).Φ t1_0.succ = Pipeline.scopedRest spec1 c from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩, ⟨%d7, %f7, -, H7⟩⟩
  rw [before0] at hf0
  rw [before1] at hf1
  rw [before2] at hf2
  rw [before3] at hf3
  rw [before4] at hf4
  rw [before5] at hf5
  subst hf0 hf1 hf2 hf3 hf4 hf5
  iapply (body_wp c (stg0 V c) (stg1 V c) (stg2 V c) (stg3 V c) (stg4 V c) (stg5 V c) f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]
  · iexists _; isplitr; swap; (· iexact H6); ipureintro
    dsimp only [dat]
    unfold out0; rw [stg0_eq]
  · iexists _; isplitr; swap; (· iexact H7); ipureintro
    dsimp only [dat]
    unfold out1; rw [stg0_eq, stg1_eq, stg2_eq, stg3_eq, stg4_eq, stg5_eq]

/-! ## The region -/

theorem arr6 (c : Dev nD) : (dat V c).arrAt 6 cfg1.N = out0 V c :=
  (dat V c).arrAt_eq_of_after_last 6 t1_0 (by decide +kernel) (out0 V c) fun j => rfl

theorem arr7 (c : Dev nD) : (dat V c).arrAt 7 cfg1.N = out1 V c :=
  (dat V c).arrAt_eq_of_after_last 7 t1_0 (by decide +kernel) (out1 V c) fun j => rfl

/-- What the core owes around the call: nothing, its waits at the levels above. -/
abbrev noOwes (c : Dev nD) : sProp 𝕄 :=
  iprop(∃ W, ⌜(K (F := F)).WBelow (T c) W (8 * 1)⌝ ∗ owes (T c) (0 : CellTallies nD τ sig (HIx 1)) W)

set_option backward.isDefEq.respectTransparency.types false in
/-- The TensorCore call over the unscoped buffers: entered from `V`, left with the results' arrays at their values and
    every other buffer as it was. -/
def reg : Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ noOwes (F := F) c)
  post c := iprop(unscopedBufs c (afterTc V c) ∗ noOwes (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (afterTc V c) ((pdats V 0 c).arrAt · cfg1.N)
      (fun w => by
        fin_cases w
        · exact ((pdats V 0 c).arrAt_in 0 rfl _).trans (afterTc_ne V c main_v2 (by decide) (by decide)).symm
        · exact ((pdats V 0 c).arrAt_in 1 rfl _).trans (afterTc_ne V c main_arg2 (by decide) (by decide)).symm
        · exact ((pdats V 0 c).arrAt_in 2 rfl _).trans (afterTc_ne V c main_v3 (by decide) (by decide)).symm
        · exact ((pdats V 0 c).arrAt_in 3 rfl _).trans (afterTc_ne V c main_v4 (by decide) (by decide)).symm
        · exact ((pdats V 0 c).arrAt_in 4 rfl _).trans (afterTc_ne V c main_arg5 (by decide) (by decide)).symm
        · exact ((pdats V 0 c).arrAt_in 5 rfl _).trans (afterTc_ne V c main_v5 (by decide) (by decide)).symm
        · exact (arr6 V c).trans (afterTc_0 V c).symm
        · exact (arr7 V c).trans (afterTc_1 V c).symm)
      (fun b hb => afterTc_ne V c b (fun h => hb (h ▸ Finset.mem_image.mpr ⟨6, Finset.mem_univ _, rfl⟩))
        fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, s, rfl⟩ := h
        exact Nat.zero_le _
    iexact HO

end Cert.KernelIdeal.Walk

end
-- ==== Proof.Ideal.Main.lean ====
/-
  The whole program on one device: the reshape before the SparseCore call, the call on the 32 tiles, the reshapes after
  it, the TensorCore call; then the launch. `run_main` says what every buffer of the TensorCore ends at.
-/
module

public import proofs.«01_k».proof.Proof.Ideal.Region
public import Idealize.ShloMosaic.Lib.Pipeline.Frame
public import Idealize.ShloMosaic.Lib.Pointwise

@[expose] public section

noncomputable section

namespace Cert.KernelIdeal.Walk

open Cert.KernelIdeal.Gen
open Idealize.ShloMosaic
open Idealize.ShloMosaic.TcCoe Idealize.ShloMosaic.Tactic
open Idealize.ShloMosaic.SparseCore (S V)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.Pipeline (ucRefs)
open Facts₀ Facts

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The buffers' contents, from line to line -/

abbrev x' : DevRef τ sig := Proc.devRef .tc (main_v0 : Ref sig .tc)
abbrev j' : DevRef τ sig := Proc.devRef .tc (main_arg1 : Ref sig .tc)
abbrev o' : DevRef τ sig := Proc.devRef .tc (main_v1 : Ref sig .tc)
abbrev op0 : HloOp τ sig (Elt F) := StableHlo.reshape main_arg0 main_v0 (rfl : (.f32 : EltTy) = .f32) Facts₀.shapeCasts_S32768x256_S8388608
abbrev op1 : HloOp τ sig (Elt F) := StableHlo.reshape main_v1 main_v2 (rfl : (.f32 : EltTy) = .f32) Facts₀.shapeCasts_S32x4096_S32x16x256
abbrev op2 : HloOp τ sig (Elt F) := StableHlo.reshape main_arg3 main_v3 (rfl : (.f32 : EltTy) = .f32) Facts₀.shapeCasts_S256_S1x256
abbrev op3 : HloOp τ sig (Elt F) := StableHlo.reshape main_arg4 main_v4 (rfl : (.f32 : EltTy) = .f32) Facts₀.shapeCasts_S256_S1x256
abbrev op4 : HloOp τ sig (Elt F) := StableHlo.reshape main_arg6 main_v5 (rfl : (.f32 : EltTy) = .f32) Facts₀.shapeCasts_S128_S1x128

/-- The rows laid end to end, and the segment words. -/
def xf (d : Dev nD) (p : ℕ) : F .f32 :=
  (m ((SparseCore.T d).loc main_arg0) : S32768x256.Idx → F .f32) (ix2 ⟨p / 256 % 32768, by omega⟩ ⟨p % 256, by omega⟩)
def jf (d : Dev nD) (p : ℕ) : BitVec 32 :=
  (m ((SparseCore.T d).loc main_arg1) : S32768.Idx → BitVec 32) (ix1 ⟨p % 32768, by omega⟩)

/-- At the launch; after the reshape; after the SparseCore call; after the four reshapes. -/
def V0 (d : Dev nD) : Valuation τ sig (Elt F) := fun b => m (d, b)
def V1 (d : Dev nD) : Valuation τ sig (Elt F) := (op0 (F := F)).result (V0 m d)
def V2 (d : Dev nD) : Valuation τ sig (Elt F) := Function.update (V1 m d) o' (pBuf (xf m d) (jf m d))
def V6 (d : Dev nD) : Valuation τ sig (Elt F) :=
  (op4 (F := F)).result ((op3 (F := F)).result ((op2 (F := F)).result ((op1 (F := F)).result (V2 m d))))
/-- The TensorCore's buffers at the end. -/
def Vend (d : Dev nD) (b : Ref sig .tc) : Buf (Elt F) ((d : Thread nD τ).loc b) := afterTc (fun c b => V6 m c (Proc.devRef .tc b)) d b

def of (d : Dev nD) : S32x4096.Idx → Elt F .f32 := m ((SparseCore.T d).loc main_v1)

theorem V1_x (d : Dev nD) : V1 m d x' = xBuf (xf m d) := by
  unfold V1
  refine (StableHlo.reshape_result' (τ := τ) (Val := Elt F) (x := main_arg0) (y := main_v0) ..).trans ?_
  funext i
  show shapeCast S8388608 (m ((SparseCore.T d).loc main_arg0)) Facts₀.shapeCasts_S32768x256_S8388608 i = xf m d (i 0).val
  unfold xf
  have h : (i 0).val < 8388608 := (i 0).isLt
  pointwise
  congr 1
  funext a
  fin_cases a
  · exact Fin.ext (by simp; omega)
  · exact Fin.ext (by simp)

theorem V1_j (d : Dev nD) : V1 m d j' = jBuf (jf m d) := by
  unfold V1
  refine (StableHlo.reshape_result_ne' (h := by decide) ..).trans ?_
  funext i
  have h : (i 0).val < 32768 := (i 0).isLt
  show m ((SparseCore.T d).loc main_arg1) i = m ((SparseCore.T d).loc main_arg1) (ix1 ⟨(i 0).val % 32768, _⟩)
  congr 1
  funext a
  fin_cases a
  exact Fin.ext (by simp; omega)

theorem V1_o (d : Dev nD) : V1 m d o' = of m d := by
  unfold V1
  exact StableHlo.reshape_result_ne' (h := by decide) ..

/-! ## The call's three operands out of the buffers -/

abbrev rest : Finset (DevRef τ sig) := (((ucRefs τ sig).erase x').erase j').erase o'

theorem mem_uc (b : Ref sig .tc) (h : b.isScoped = false) : (Proc.devRef .tc b : DevRef τ sig) ∈ ucRefs τ sig :=
  Finset.mem_filter.mpr ⟨StableHlo.devRef_mem_tcRefs b, by rw [show (Proc.devRef .tc b : DevRef τ sig).isScoped = b.isScoped from rfl, h]; decide⟩

theorem held_three (d : Dev nD) (W : Valuation τ sig (Elt F)) :
    (held (SparseCore.T d) (ucRefs τ sig) W : sProp 𝕄)
      = iprop((xLoc d ↦{fullShare} W x') ∗ (jLoc d ↦{fullShare} W j') ∗ (oLoc d ↦{fullShare} W o') ∗ held (SparseCore.T d) rest W) := by
  unfold held
  rw [SparseCore.bigSep_erase' (mem_uc main_v0 rfl),
    SparseCore.bigSep_erase' (Finset.mem_erase.mpr ⟨show j' ≠ x' by decide, mem_uc main_arg1 rfl⟩),
    SparseCore.bigSep_erase' (Finset.mem_erase.mpr ⟨show o' ≠ j' by decide, Finset.mem_erase.mpr ⟨show o' ≠ x' by decide, mem_uc main_v1 rfl⟩⟩)]

theorem held_rest (d : Dev nD) : (held (SparseCore.T d) rest (V2 m d) : sProp 𝕄) = held (SparseCore.T d) rest (V1 m d) := by
  unfold held
  refine bigSep_congr fun b hb => ?_
  rw [show V2 m d b = V1 m d b from Function.update_of_ne (Finset.ne_of_mem_erase hb) _ _]

theorem held_V1 (d : Dev nD) : (held (SparseCore.T d) (ucRefs τ sig) ((op0 (F := F)).result (V0 m d)) : sProp 𝕄)
    = iprop((xLoc d ↦{fullShare} xBuf (xf m d)) ∗ (jLoc d ↦{fullShare} jBuf (jf m d)) ∗ (oLoc d ↦{fullShare} of m d) ∗ held (SparseCore.T d) rest (V1 m d)) := by
  rw [show (op0 (F := F)).result (V0 m d) = V1 m d from rfl, held_three, V1_x, V1_j, V1_o]

theorem V2_x (d : Dev nD) : V2 m d x' = xBuf (xf m d) := (Function.update_of_ne (show x' ≠ o' by decide) _ _).trans (V1_x m d)
theorem V2_j (d : Dev nD) : V2 m d j' = jBuf (jf m d) := (Function.update_of_ne (show j' ≠ o' by decide) _ _).trans (V1_j m d)
theorem V2_o (d : Dev nD) : V2 m d o' = pBuf (xf m d) (jf m d) := Function.update_self _ _ _

abbrev PP := P (xf m) (jf m) (of m)

theorem st_eq (d : Dev nD) : (bigSep Finset.univ fun c : Fin ((K (F := F)).nCore 0) => (PP m).st 0 d c)
    = bigSep (Finset.range 32) (part (xf m) (jf m) d (of m d)) := all_tiles (part (xf m) (jf m) d (of m d))
theorem dn_eq (d : Dev nD) : (bigSep Finset.univ fun c : Fin ((K (F := F)).nCore 0) => (PP m).dn 0 d c)
    = bigSep (Finset.range 32) (part (xf m) (jf m) d (pBuf (xf m d) (jf m d))) := all_tiles (part (xf m) (jf m) d (pBuf (xf m d) (jf m d)))

theorem Otc_one (d : Dev nD) : (K (F := F)).Otc d 1 = (0 : CellTallies nD τ sig (HIx 1)) := by
  unfold SparseCore.Cfg.Otc
  exact Finset.sum_eq_zero fun q _ => if_neg (by omega)

/-- What the launch deals each TensorCore: its pipeline's cells and tokens. -/
abbrev G (d : Dev nD) : sProp 𝕄 := Pipeline.ghostOn (pcfgs (F := F)) adm EP Finset.univ d

instance EP_lands : (EP (F := F)).LandsIn (upEmb : UEmb _ 𝕄) := by unfold EP; infer_instance

abbrev FIN (d : Dev nD) : sProp 𝕄 := unscopedBufs d (Vend m d)

set_option maxHeartbeats 1000000 in
/-- The TensorCore call, from buffers at `V`. -/
theorem region_call (V : (c : Dev nD) → (b : Ref sig .tc) → Buf (Elt F) ((c : Thread nD τ).loc b)) (d : Dev nD) (Q : PUnit → sProp 𝕄) :
    iprop((iprop(boundary (SparseCore.T d) ∗ unscopedBufs d (afterTc V d) ∗ noOwes (F := F) d) -∗ Q PUnit.unit)
        ∗ boundary (SparseCore.T d) ∗ iprop(unscopedBufs d (V d) ∗ noOwes (F := F) d) ∗ levAts (K (F := F)).L (K (F := F)).lev ∗ G d)
      ⊢ wp frame (wpE (D (F := F)) 𝒱 (SparseCore.T d) none) Set.univ (Prog.lift (.customCall (Pipeline.entry 0) ())) Q :=
  Pipeline.wp_segs (pcfgs (F := F)) adm (pdats V) (none : HIx 1) cellOf_inj EP defs₀ 𝒱₀
    (K (F := F)).L (K (F := F)).lev d (Q := Q) [.region (reg V)] Finset.univ
    (fun c => iprop(unscopedBufs c (V c) ∗ noOwes (F := F) c))
    (fun c => iprop(unscopedBufs c (afterTc V c) ∗ noOwes (F := F) c)) (List.nodup_singleton _) (fun p _ => Finset.mem_univ p)
    ⟨fun c => BIBase.Entails.rfl, fun c => BIBase.Entails.rfl⟩

/-- The call of the TensorCore's pipeline. -/
abbrev tcProg : Prog (TpuEff nD τ sig (Elt F) (ΛP (F := F)) .tc) PUnit := Prog.lift (.customCall (Pipeline.entry 0) ())

theorem tc_call (κ : GSem nD τ sig → ℕ) (d : Dev nD) (Q : PUnit → sProp 𝕄) :
    iprop((iprop(boundary (SparseCore.T d) ∗ FIN m d ∗ noOwes (F := F) d) -∗ Q PUnit.unit)
        ∗ boundary (SparseCore.T d) ∗ held (SparseCore.T d) (ucRefs τ sig) (V6 m d) ∗ noOwes (F := F) d ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q := by
  have h := (K (F := F)).wp_liftProg (D (F := F)) 𝒱 (SparseCore.T d) Set.univ none (tcProg (F := F)) Q
  refine BIBase.Entails.trans ?_ (h.trans (Entails.of_eq rfl))
  refine BIBase.Entails.trans ?_ (region_call (fun c b => V6 m c (Proc.devRef .tc b)) d Q)
  rw [← Pipeline.unscopedBufs_held]
  iintro ⟨Hk, Hb, Hu, Ho, Hl, Hg⟩
  isplitl [Hk]; · iexact Hk
  isplitl [Hb]; · iexact Hb
  isplitl [Hu Ho]; · isplitl [Hu] <;> iassumption
  isplitl [Hl] <;> iassumption

/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from Pipeline.unscopedBufs_held d (V0 m d)]
  simp only [main, wp_bind, wp_pure]
  iintro ⟨#Hctx, Hst, ⟨Hb, Hheld, Hts, -⟩, HG⟩
  iapply (wp_hlo_within 𝒱 (SparseCore.T d) none Set.univ (op := op0) (S := ucRefs τ sig) (Pipeline.sub_ucRefs _ (StableHlo.reshape_bufs_sub ..)) (V := V0 m d)) $$ [Hb Hheld]
  · isplitl [Hb] <;> iassumption
  iintro ⟨Hb, Hheld⟩
  rw [wp_ret]; imodintro
  ihave H := (Entails.of_eq (held_V1 m d)) $$ Hheld
  icases H with ⟨Hx, Hj, Ho, Hrest⟩
  ihave H := (parts_iff (xf m) (jf m) d (of m d)).1 $$ [Hx Hj Ho]
  · isplitl [Hx]; · iexact Hx
    isplitl [Hj] <;> iassumption
  icases H with ⟨Hkept, Hparts⟩
  iapply ((K (F := F)).wp_run (D (F := F)) 𝒱 (EH := EH) (P := PP m) κ d 0) $$ [Hst Hparts Hb Hkept Hrest Hts HG]
  isplitr; · iexact Hctx
  isplitl [Hst]; · iexact Hst
  isplitl [Hparts]
  · rw [st_eq]; iexact Hparts
  iintro ⟨Hst, Hparts⟩
  ihave Hparts := (Entails.of_eq (dn_eq m d)) $$ Hparts
  ihave H := (parts_iff (xf m) (jf m) d (pBuf (xf m d) (jf m d))).2 $$ [Hkept Hparts]
  · isplitl [Hkept] <;> iassumption
  icases H with ⟨Hx, Hj, Ho⟩
  ihave Hheld := (Entails.of_eq (held_three (F := F) d (V2 m d)).symm) $$ [Hx Hj Ho Hrest]
  · rw [V2_x, V2_j, V2_o, held_rest]
    isplitl [Hx]; · iexact Hx
    isplitl [Hj]; · iexact Hj
    isplitl [Ho] <;> iassumption
  iapply (wp_hlo_within 𝒱 (SparseCore.T d) none Set.univ (op := op1) (S := ucRefs τ sig) (Pipeline.sub_ucRefs _ (StableHlo.reshape_bufs_sub ..)) (V := V2 m d)) $$ [Hb Hheld]
  · isplitl [Hb] <;> iassumption
  iintro ⟨Hb, Hheld⟩
  rw [wp_ret]; imodintro
  iapply (wp_hlo_within 𝒱 (SparseCore.T d) none Set.univ (op := op2) (S := ucRefs τ sig) (Pipeline.sub_ucRefs _ (StableHlo.reshape_bufs_sub ..)) (V := (op1 (F := F)).result (V2 m d))) $$ [Hb Hheld]
  · isplitl [Hb] <;> iassumption
  iintro ⟨Hb, Hheld⟩
  rw [wp_ret]; imodintro
  iapply (wp_hlo_within 𝒱 (SparseCore.T d) none Set.univ (op := op3) (S := ucRefs τ sig) (Pipeline.sub_ucRefs _ (StableHlo.reshape_bufs_sub ..)) (V := (op2 (F := F)).result ((op1 (F := F)).result (V2 m d)))) $$ [Hb Hheld]
  · isplitl [Hb] <;> iassumption
  iintro ⟨Hb, Hheld⟩
  rw [wp_ret]; imodintro
  iapply (wp_hlo_within 𝒱 (SparseCore.T d) none Set.univ (op := op4) (S := ucRefs τ sig) (Pipeline.sub_ucRefs _ (StableHlo.reshape_bufs_sub ..)) (V := (op3 (F := F)).result ((op2 (F := F)).result ((op1 (F := F)).result (V2 m d))))) $$ [Hb Hheld]
  · isplitl [Hb] <;> iassumption
  iintro ⟨Hb, Hheld⟩
  rw [wp_ret]; imodintro
  unfold SparseCore.Cfg.tcSt
  icases Hst with ⟨⟨%W, %hW, HO⟩, Hst⟩
  ihave HO := (Entails.of_eq (show (owes (SparseCore.T d) ((K (F := F)).Otc d ((0 : Fin 1).val + 1)) W : sProp 𝕄) = owes (SparseCore.T d) 0 W from by rw [show (0 : Fin 1).val + 1 = 1 from rfl, Otc_one])) $$ HO
  ihave #Hlev := ((K (F := F)).ctx_levAts κ) $$ Hctx
  iapply (tc_call m κ d _)
  isplitl [Hst Hts]
  · iintro ⟨Hb, HF, HO⟩
    imodintro
    isplitl [Hst HO]
    · isplitl [HO]; · rw [Otc_one]; iexact HO
      iexact Hst
    isplitl [HF]; · iexact HF
    isplitl [Hb] <;> iassumption
  isplitl [Hb]; · iexact Hb
  isplitl [Hheld]; · iexact Hheld
  isplitl [HO]
  · iexists W
    isplitr; · ipureintro; exact hW
    iexact HO
  isplitr; · iexact Hlev
  iexact HG

/-! ## The launch -/

def u₀ : UU := (initOf (K (F := F)).hsCells (K (F := F)).hsToks,
  (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (cfgs := Pipeline.pin (pcfgs (F := F)) adm) (ER := EP) cellOf_inj) $$ HP with ⟨Hg, Ht⟩
  imodintro
  isplitl [HH]; · iexact HH
  isplitl [Hg Ht]
  · rw [show (bigSep Finset.univ fun d : Dev nD => G (F := F) d)
      = iprop((bigSep Finset.univ fun c : Dev nD => bigSep Finset.univ fun p => Pipeline.cellsGhost (Pipeline.pin (pcfgs (F := F)) adm) EP p c)
        ∗ bigSep Finset.univ fun c : Dev nD => bigSep Finset.univ fun p => Pipeline.toksInit (Pipeline.pin (pcfgs (F := F)) adm) EP p c) from by
        rw [← bigSep_sep']
        exact bigSep_congr fun c _ => bigSep_sep' ..]
    isplitl [Hg] <;> iassumption
  · rw [show (fun thr : Thread nD τ => bigSep Finset.univ fun q : Fin 1 => (PP m).x q thr) = fun _ => (BI.emp : sProp 𝕄) from
      funext fun thr => bigSep_univ_of_subsingleton (0 : Fin 1), bigSep_emp_const]
    iempintro

/-- Every unscoped buffer of the TensorCore ends at `Vend`. -/
def fq (d : Dev nD) (s' : Phys nD τ sig (Elt F)) : Prop := ∀ b : Ref sig .tc, b.isScoped = false → s'.mem.mem ((SparseCore.T d).loc b) = Vend m d b

theorem hfin (d : Dev nD) (s' : Phys nD τ sig (Elt F)) : iprop(FIN m d ∗ SI s') ⊢ (⌜fq m d s'⌝ : sProp 𝕄) := by
  by_cases hq : fq m d s'
  · iintro -; ipureintro; exact hq
  · obtain ⟨b, hb⟩ := not_forall.mp hq
    obtain ⟨hs, hb⟩ := Classical.not_imp.mp hb
    unfold FIN unscopedBufs
    rw [SparseCore.bigSep_erase' (i := b) (Finset.mem_filter.mpr ⟨Finset.mem_univ _, by rw [hs]; decide⟩)]
    iintro ⟨⟨Hx, -⟩, HSI⟩
    ihave H := (SI_pointsTo_agree (st := s') (ℓ := (SparseCore.T d).loc b) (I := Finset.univ) (q := fullShare) (f := Vend m d b)) $$ [HSI Hx]
    · isplitl [HSI] <;> iassumption
    icases H with %hx
    exact absurd (funext fun i => hx i (Finset.mem_univ i)) hb

def QC : PUnit × MemSt nD τ sig (Elt F) → Prop := fun r =>
  (∀ (d : Dev nD) (b : Ref sig .tc), b.isScoped = false → r.2.mem ((SparseCore.T d).loc b) = Vend m d b) ∧ r.2.sem = fun _ => 0

/-- The run: from segment words below 16, every execution ends with the TensorCore's buffers at `Vend` and every
    semaphore counter at zero. -/
theorem run_main (hj : ∀ d p, (jf m d p).toNat < 16) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) launchFacts v₀
    (fun q hq => match q with | 0 => nomatch hq)
    (fun q _ => match q with | 0 => tileObl (xf m) (jf m) (of m) hj)
    (fun q _ => match q with | 0 => SparseCore.Cfg.VecSplit.of_plain (vecSplit (xf m) (jf m) (of m)))
    m ρ main (fun d => G (F := F) d) (FIN m) (u₀ (F := F)) (sep_elim_left.trans (hu₀ m)) (hmain m ρ) (fq m) (hfin m) (QC m) (fun _ h hz => ⟨h, hz⟩)

end Cert.KernelIdeal.Walk

end
-- ==== Proof.Ideal.Frame.lean ====
/-
  The kernel's frame: the arguments end as they began, and every semaphore counter is back at zero.
-/
module

public import proofs.«01_k».proof.Proof.Ideal.Main
public import proofs.«01_k».proof.Proof.Ids

@[expose] public section

noncomputable section

namespace Cert.KernelIdeal.Walk

open Idealize.ShloMosaic
open Idealize.ShloMosaic.TcCoe
open Idealize.SL.Sem

variable {F : FTy → Type} [FloatOps F] [∀ e, Nonempty (Elt F e)]

variable (m : (ℓ : Loc nD τ sig) → Buf (Elt F) ℓ) (ρ : Dev nD → PrngReg)

/-- The precondition of the arguments' arrays, on every device. -/
def Ok : Prop := ∀ d : Dev nD, Cert.Pre_sorted_ids.fn (F := F) (m ((SparseCore.T d).loc main_arg0)) (m ((SparseCore.T d).loc main_arg1))
  (m ((SparseCore.T d).loc main_arg2)) (m ((SparseCore.T d).loc main_arg3)) (m ((SparseCore.T d).loc main_arg4))
  (m ((SparseCore.T d).loc main_arg5)) (m ((SparseCore.T d).loc main_arg6)) = fun _ => 1#1

theorem jf_lt (h : Ok m) (d : Dev nD) (p : ℕ) : (jf m d p).toNat < 16 := Cert.Ids.lt_of_pre (h d) _

/-- A buffer no line writes ends as it began. -/
theorem Vend_kept (d : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6_0) (h7 : b ≠ main_v6_1) : Vend m d b = m ((SparseCore.T d).loc b) := by
  unfold Vend
  rw [afterTc_ne _ _ _ h6 h7]
  unfold V6
  exact (StableHlo.reshape_result_ne' (h := h5) ..).trans <| (StableHlo.reshape_result_ne' (h := h4) ..).trans <|
    (StableHlo.reshape_result_ne' (h := h3) ..).trans <| (StableHlo.reshape_result_ne' (h := h2) ..).trans <|
    (Function.update_of_ne (StableHlo.devRef_ne_of_ne h1) _ _).trans (StableHlo.reshape_result_ne' (h := h0) ..)

/-- The run under the precondition: both results at `Vend`, the arguments kept, the counters at zero. -/
theorem run_ok (h : Ok m) : θ_run (Cert.KernelIdeal.defs (F := F)) (Cert.KernelIdeal.threads (F := F)) ⟨m, fun _ => 0, ρ⟩ (fun r =>
    (∀ c : Dev nD, r.2.mem ((SparseCore.T c).loc main_v6_0) = Vend m c main_v6_0
      ∧ r.2.mem ((SparseCore.T c).loc main_v6_1) = Vend m c main_v6_1
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)
      ∧ r.2.mem ((SparseCore.T c).loc main_arg6) = m ((SparseCore.T c).loc main_arg6))
    ∧ r.2.sem = fun _ => 0) := by
  refine (θ_run (Cert.KernelIdeal.defs (F := F)) _ _).mono (fun r hr => ⟨fun c => ⟨hr.1 c _ rfl, hr.1 c _ rfl, ?_, ?_, ?_, ?_, ?_, ?_, ?_⟩, hr.2⟩)
    (run_main m ρ (jf_lt m h))
  all_goals exact (hr.1 c _ rfl).trans (Vend_kept m c _ (by decide) (by decide) (by decide) (by decide) (by decide) (by decide) (by decide) (by decide))

end Cert.KernelIdeal.Walk

end
-- ==== Proof.Ideal.Segments.lean ====
/-
  What a tile's accumulator holds on the extended reals: word `256 s + c` is the least bound of zero and of column `c`
  of the rows, among those taken, whose segment is `s`.
-/
module

public import proofs.«01_k».proof.Proof.Ideal.Tile
public import Idealize.ShloMosaic.PureOps.Ideal.Laws

@[expose] public section

noncomputable section

namespace Cert.KernelIdeal.Walk

open Idealize.ShloMosaic

/-- The pattern of `-∞`. -/
theorem ofBits_bot : Scalar.ofBits (F := Ideal) .f32 0xFF800000#32 = (⊥ : EReal) := by
  show Ideal.ofBits .f32 0xFF800000#32 = ⊥
  simp [Ideal.ofBits, Ideal.ieee]

/-- The pattern of zero. -/
theorem ofBits_zero : Scalar.ofBits (F := Ideal) .f32 0x00000000#32 = (0 : EReal) := Ideal.ofBits_zero_f32

variable {g : ℕ → Ideal .f32} {w : Fin 16 → ℕ} {q s c : ℕ} {b : EReal}

/-- The listed rows bound word `256 s + c` by column `c` of those of segment `s`. -/
theorem rowsStep_le (hc : c < 256) : ∀ (rs : List (Fin 16)) (f : ℕ → Ideal .f32),
    rowsStep (F := Ideal) g w q rs f (256 * s + c) ≤ b ↔ f (256 * s + c) ≤ b ∧ ∀ r ∈ rs, w r = s → g (q + 256 * r.val + c) ≤ b
  | [], f => by simp [rowsStep]
  | r :: rs, f => by
    have e : rowStep (F := Ideal) g (w r) (q + 256 * r.val) f (256 * s + c) ≤ b ↔ f (256 * s + c) ≤ b ∧ (w r = s → g (q + 256 * r.val + c) ≤ b) := by
      unfold rowStep
      rw [show (256 * s + c) / 256 = s by omega, show (256 * s + c) % 256 = c by omega]
      by_cases h : w r = s
      · rw [if_pos h.symm]
        exact max_le_iff.trans (and_congr_right fun _ => ⟨fun k _ => k, fun k => k h⟩)
      · rw [if_neg (Ne.symm h)]
        exact ⟨fun k => ⟨k, fun e => absurd e h⟩, fun k => k.1⟩
    show rowsStep (F := Ideal) g w q rs (rowStep g (w r) (q + 256 * r.val) f) (256 * s + c) ≤ b ↔ _
    rw [rowsStep_le hc rs, e, List.forall_mem_cons, and_assoc]

/-- A column's maximum over the listed rows. -/
theorem colMax_le {p : ℕ} : ∀ (rs : List (Fin 16)) (m : Ideal .f32),
    colMax (F := Ideal) g q p rs m ≤ b ↔ m ≤ b ∧ ∀ r ∈ rs, g (q + 256 * r.val + p) ≤ b
  | [], m => by simp [colMax]
  | r :: rs, m => by
    show colMax (F := Ideal) g q p rs (FloatOps.maximumf m (g (q + 256 * r.val + p))) ≤ b ↔ _
    rw [colMax_le rs, List.forall_mem_cons, ← and_assoc]
    exact and_congr_left fun _ => max_le_iff

/-- A column's maximum over the whole group. -/
theorem groupMax_le {p : ℕ} : groupMax (F := Ideal) g q p ≤ b ↔ ∀ r : Fin 16, g (q + 256 * r.val + p) ≤ b := by
  unfold groupMax
  rw [colMax_le]
  constructor
  · rintro ⟨h0, h1⟩ r
    by_cases hr : r = 0
    · subst hr; simpa using h0
    · refine h1 r ?_
      revert hr; revert r; decide
  · intro h
    exact ⟨by simpa using h 0, fun r _ => h r⟩

/-- A group: when its first and last segments agree, all of them must. -/
theorem groupStep_le (hc : c < 256) (hw : w 0 = w 15 → ∀ r, w r = w 0) (f : ℕ → Ideal .f32) :
    groupStep (F := Ideal) g w q f (256 * s + c) ≤ b ↔ f (256 * s + c) ≤ b ∧ ∀ r : Fin 16, w r = s → g (q + 256 * r.val + c) ≤ b := by
  by_cases h : w 0 = w 15
  · rw [groupStep_one h]
    unfold oneStep
    rw [show (256 * s + c) / 256 = s by omega, show (256 * s + c) % 256 = c by omega]
    by_cases hs : w 0 = s
    · rw [if_pos hs.symm]
      refine max_le_iff.trans (and_congr_right fun _ => groupMax_le.trans ⟨fun k r _ => k r, fun k r => k r ((hw h r).trans hs)⟩)
    · rw [if_neg (Ne.symm hs)]
      exact ⟨fun k => ⟨k, fun r e => absurd ((hw h r).symm.trans e) hs⟩, fun k => k.1⟩
  · rw [groupStep_rows h, rowsStep_le hc]
    exact and_congr_right fun _ => ⟨fun k r => k r (mem_blocks r), fun k r _ => k r⟩

/-- A tile's accumulator after `n` groups of rows whose segments ascend. -/
theorem accAfter_le (x : ℕ → Ideal .f32) (j : ℕ → BitVec 32) (t : ℕ) (ht : t < 32)
    (hj : ∀ a a', a ≤ a' → a' < 32768 → (j a).toNat ≤ (j a').toNat) (hc : c < 256) : ∀ n, n ≤ 64 →
    (accAfter (F := Ideal) x j t n (256 * s + c) ≤ b
      ↔ (0 : EReal) ≤ b ∧ ∀ r < 16 * n, (j (1024 * t + r)).toNat = s → x (256 * (1024 * t + r) + c) ≤ b)
  | 0, _ => by
    rw [accAfter_zero, ofBits_zero]
    simp
  | n + 1, hn => by
    have hw : (j (1024 * t + 16 * n + (0 : Fin 16).val)).toNat = (j (1024 * t + 16 * n + (15 : Fin 16).val)).toNat →
        ∀ r : Fin 16, (j (1024 * t + 16 * n + r.val)).toNat = (j (1024 * t + 16 * n + (0 : Fin 16).val)).toNat := by
      intro e r
      have hr := r.isLt
      have e0 : (0 : Fin 16).val = 0 := rfl
      have e15 : (15 : Fin 16).val = 15 := rfl
      rw [e0, e15] at e
      rw [e0]
      have h1 := hj (1024 * t + 16 * n + 0) (1024 * t + 16 * n + r.val) (by omega) (by omega)
      have h2 := hj (1024 * t + 16 * n + r.val) (1024 * t + 16 * n + 15) (by omega) (by omega)
      omega
    rw [accAfter_succ, groupStep_le hc hw, accAfter_le x j t ht hj hc n (by omega), and_assoc]
    refine and_congr_right fun _ => ?_
    have idx : ∀ r : Fin 16, stage (F := Ideal) x t (n / 16) (4096 * (n % 16) + 256 * r.val + c) = x (256 * (1024 * t + (16 * n + r.val)) + c) := fun r =>
      congrArg x (by have := r.isLt; omega)
    constructor
    · rintro ⟨h1, h2⟩ r hr e
      by_cases h : r < 16 * n
      · exact h1 r h e
      · obtain ⟨k, rfl⟩ : ∃ k, r = 16 * n + k := ⟨r - 16 * n, by omega⟩
        have := h2 ⟨k, by omega⟩ (by rw [← e]; simp only [Nat.add_assoc])
        rwa [idx] at this
    · intro h
      refine ⟨fun r hr e => h r (by omega) e, fun r e => ?_⟩
      rw [idx]
      exact h _ (by have := r.isLt; omega) (by rw [← e]; simp only [Nat.add_assoc])

end Cert.KernelIdeal.Walk

end
-- ==== Proof.Ideal.Pooled.lean ====
/-
  The pooled maxima on the extended reals: what the last maximum over the tiles' partial results is, and what the
  reference's maximum over all rows is, each by its upper bounds.
-/
module

public import proofs.«01_k».proof.Proof.Ideal.Segments
public import proofs.«01_k».proof.Proof.Ideal.Region
public import proofs.«01_k».proof.Proof.Gen.ReferenceIdeal
public import Idealize.ShloMosaic.Lib.Pointwise

@[expose] public section

noncomputable section

namespace Cert.KernelIdeal.Walk

open Idealize.ShloMosaic

/-- The kernel's pooled entry is the maximum of the 32 partial entries. -/
theorem pooled_le (X : Vec Ideal S32x16x256 .f32) (s : Fin 16) (c : Fin 256) (b : EReal) :
    pooled (F := Ideal) X (ix2 s c) ≤ b ↔ ∀ t : Fin 32, X (ix3 t s c) ≤ b := by
  have e : pooled (F := Ideal) X (ix2 s c) = (Finset.univ : Finset (Fin 32)).fold max (⊥ : EReal) fun t => X (ix3 t s c) := by
    unfold pooled
    pointwise [Gen.k1_pay2]
    rw [show Ideal.ofBits .f32 0xFF800000#32 = (⊥ : EReal) from ofBits_bot]
  rw [e, Finset.fold_max_le]
  simp

end Cert.KernelIdeal.Walk

namespace Cert.ReferenceIdeal.Value

open Cert.ReferenceIdeal Cert.ReferenceIdeal.Gen Idealize.ShloMosaic
/-- The reference's rows, with `-∞` in place of those of other segments. -/
def masked (x : FVec Ideal S32768x256 .f32) (ids : IVec S32768 32) : FVec Ideal S16x32768x256 .f32 :=
  select (broadcastInDim S16x32768x256 ![0, 1, 2] bcast_S16x32768x1_S16x32768x256_0_1_2 (cmpi .eq (broadcastInDim S16x32768x1 ![0, 1, 2] bcast_S1x32768x1_S16x32768x1_0_1_2 (broadcastInDim S1x32768x1 ![1] bcast_S32768_S1x32768x1_1 ids)) (broadcastInDim S16x32768x1 ![0, 1, 2] bcast_S16x1x1_S16x32768x1_0_1_2 (broadcastInDim S16x1x1 ![0] bcast_S16_S16x1x1_0 (iotaInDim S16 32 0))))) (broadcastInDim S16x32768x256 ![0, 1, 2] bcast_S1x32768x256_S16x32768x256_0_1_2 (broadcastInDim S1x32768x256 ![1, 2] bcast_S32768x256_S1x32768x256_1_2 x)) (broadcastInDim S16x32768x256 ![] bcast_S_S16x32768x256 (id (constant S_ .f32 0xFF800000#32)))

/-- The reference's pooled array. -/
def refPooled (x : FVec Ideal S32768x256 .f32) (ids : IVec S32768 32) : FVec Ideal S16x256 .f32 :=
  maximumf (Host.reduce FloatOps.maximumf (masked x ids) (constant S_ .f32 0xFF800000#32) reducesTo_S16x32768x256_S16x256_d1 h_S_) (broadcastInDim S16x256 ![] bcast_S_S16x256 (constant S_ .f32 0x00000000#32))

/-- A broadcast along a new first axis, along a new middle axis, and along a unit axis, at an index. -/
theorem bc_ids {α : Type} (ids : S32768.Idx → α) (s : Fin 16) (n : Fin 32768) (h h') :
    broadcastInDim S16x32768x1 ![0, 1, 2] h (broadcastInDim S1x32768x1 ![1] h' ids) (ix3 s n 0) = ids (ix1 n) := by
  rw [broadcastInDim_apply _ _ _ _ (ix3 0 n 0) (fun a => by fin_cases a <;> rfl)]
  exact broadcastInDim_apply _ _ _ _ (ix1 n) (fun a => by fin_cases a; rfl)

theorem bc_seg {α : Type} (y : S16.Idx → α) (s : Fin 16) (n : Fin 32768) (h h') :
    broadcastInDim S16x32768x1 ![0, 1, 2] h (broadcastInDim S16x1x1 ![0] h' y) (ix3 s n 0) = y (ix1 s) := by
  rw [broadcastInDim_apply _ _ _ _ (ix3 s 0 0) (fun a => by fin_cases a <;> rfl)]
  exact broadcastInDim_apply _ _ _ _ (ix1 s) (fun a => by fin_cases a; rfl)

theorem bc_col {α : Type} (y : S16x32768x1.Idx → α) (s : Fin 16) (n : Fin 32768) (c : Fin 256) (h) :
    broadcastInDim S16x32768x256 ![0, 1, 2] h y (ix3 s n c) = y (ix3 s n 0) :=
  broadcastInDim_apply _ _ _ _ (ix3 s n 0) (fun a => by fin_cases a <;> rfl)

theorem bc_rows {α : Type} (x : S32768x256.Idx → α) (s : Fin 16) (n : Fin 32768) (c : Fin 256) (h h') :
    broadcastInDim S16x32768x256 ![0, 1, 2] h (broadcastInDim S1x32768x256 ![1, 2] h' x) (ix3 s n c) = x (ix2 n c) := by
  rw [broadcastInDim_apply _ _ _ _ (ix3 0 n c) (fun a => by fin_cases a <;> rfl)]
  exact broadcastInDim_apply _ _ _ _ (ix2 n c) (fun a => by fin_cases a <;> rfl)

/-- A word equals a small number's word exactly when it is that number. -/
theorem cmpi_eq_small (v : BitVec 32) (s : Fin 16) : IntOp.cmpi .eq v (BitVec.ofNat 32 s.val) = if v.toNat = s.val then 1#1 else 0#1 := by
  have e : v = BitVec.ofNat 32 s.val ↔ v.toNat = s.val := by
    rw [← BitVec.toNat_inj, BitVec.toNat_ofNat, Nat.mod_eq_of_lt (by have := s.isLt; omega)]
  by_cases h : v.toNat = s.val
  · rw [if_pos h, IntOp.cmpi_eq]; exact e.2 h
  · rw [if_neg h]
    rcases BitVec.eq_zero_or_eq_one (IntOp.cmpi .eq v (BitVec.ofNat 32 s.val)) with k | k
    · exact k
    · exact absurd (e.1 (IntOp.cmpi_eq.1 k)) h

/-- A masked entry: the row's where the segment word is the segment, `-∞` elsewhere. -/
theorem masked_apply (x : FVec Ideal S32768x256 .f32) (ids : IVec S32768 32) (s : Fin 16) (n : Fin 32768) (c : Fin 256) :
    masked x ids (ix3 s n c) = if (ids (ix1 n)).toNat = s.val then x (ix2 n c) else (⊥ : EReal) := by
  unfold masked
  show Scalar.select (broadcastInDim S16x32768x256 _ _ _ (ix3 s n c)) _ _ = _
  rw [bc_col, bc_rows]
  show Scalar.select (IntOp.cmpi .eq (broadcastInDim S16x32768x1 _ _ _ (ix3 s n 0)) (broadcastInDim S16x32768x1 _ _ _ (ix3 s n 0))) _ _ = _
  rw [bc_ids, bc_seg]
  show Scalar.select (IntOp.cmpi .eq (ids (ix1 n)) (BitVec.ofNat 32 s.val)) _ (Scalar.ofBits (F := Ideal) .f32 0xFF800000#32) = _
  rw [cmpi_eq_small, Cert.KernelIdeal.Walk.ofBits_bot]
  by_cases h : (ids (ix1 n)).toNat = s.val
  · rw [if_pos h, if_pos h]; rfl
  · rw [if_neg h, if_neg h]; rfl

/-- The masked array's row axis is the one the maximum removes. -/
theorem reduces_rows : S16x32768x256.Reduces [1] S16x256 := by decide

/-- A maximum along one axis is at most `b` exactly when its start and every entry along the axis are. -/
theorem reduce_max_le {s t u : Shape} {a : Fin s.rank} (x : s.Idx → EReal) (init : u.Idx → EReal) (h' : s.ReducesTo [a] t) (h : s.Reduces [a] t)
    (hu : 0 < u.numel) (j : t.Idx) (b : EReal) :
    Host.reduce (FloatOps.maximumf (F := Ideal) (φ := .f32)) x init h' hu j ≤ b ↔ init (Shape.Idx.first hu) ≤ b ∧ ∀ k : Fin (s.size a), x (h.lift j k) ≤ b := by
  rw [Host.reduce_eq_fold_single _ _ _ h' h hu j]
  refine (Finset.fold_op_rel_iff_and (r := fun p q : EReal => q ≤ p) (c := b) (fun {_ _ _} => max_le_iff)).trans ?_
  exact and_congr_right fun _ => ⟨fun k n => k n (Finset.mem_univ n), fun k n _ => k n⟩

/-- An entrywise maximum is at most `b` exactly when both entries are. -/
theorem maximumf_le {s : Shape} (x y : FVec Ideal s .f32) (i : s.Idx) (b : EReal) : maximumf x y i ≤ b ↔ x i ≤ b ∧ y i ≤ b := max_le_iff

/-- The source index of row `n` under result index `(s, c)`. -/
theorem lift_rows (s : Fin 16) (n : Fin 32768) (c : Fin 256) : reduces_rows.lift (ix2 s c) n = ix3 s n c := by
  funext a; fin_cases a <;> rfl

/-- The reference's pooled entry is the least bound of zero and of the column over the segment's rows. -/
theorem refPooled_le (x : FVec Ideal S32768x256 .f32) (ids : IVec S32768 32) (s : Fin 16) (c : Fin 256) (b : EReal) :
    refPooled x ids (ix2 s c) ≤ b ↔ (0 : EReal) ≤ b ∧ ∀ n : Fin 32768, (ids (ix1 n)).toNat = s.val → x (ix2 n c) ≤ b := by
  have e0 : broadcastInDim S16x256 ![] bcast_S_S16x256 (constant (F := Ideal) S_ .f32 0x00000000#32) (ix2 s c) = (0 : EReal) := Cert.KernelIdeal.Walk.ofBits_zero
  have e1 : ∀ i : S_.Idx, constant (F := Ideal) S_ .f32 0xFF800000#32 i = (⊥ : EReal) := fun _ => Cert.KernelIdeal.Walk.ofBits_bot
  unfold refPooled
  rw [maximumf_le, e0, reduce_max_le (h := reduces_rows), e1, and_comm]
  refine and_congr_right fun _ => ?_
  constructor
  · rintro ⟨-, h⟩ n hn
    have k := h n
    rw [lift_rows, masked_apply, if_pos hn] at k
    exact k
  · intro h
    refine ⟨bot_le, fun n => ?_⟩
    have k : masked x ids (reduces_rows.lift (ix2 s c) n) = _ := (congrArg (masked x ids) (lift_rows s n c)).trans (masked_apply x ids s n c)
    rw [k]
    split
    · exact h n ‹_›
    · exact bot_le

end Cert.ReferenceIdeal.Value

end
-- ==== Proof.Ideal.Head.lean ====
/-
  The two matrix products and the normalisation between them, on the extended reals: the kernel's text and the
  reference's are one function of the pooled array and the weights.
-/
module

public import proofs.«01_k».proof.Proof.Ideal.Pooled
public import proofs.«01_k».proof.Proof.Gen.ReferenceIdeal.Run

@[expose] public section

noncomputable section

namespace Cert.ReferenceIdeal.Value

open Cert.ReferenceIdeal Cert.ReferenceIdeal.Gen Idealize.ShloMosaic

/-- The reference's product with the first weights. -/
def refHidden (P : FVec Ideal S16x256 .f32) (w : FVec Ideal S256x256 .f32) : FVec Ideal S16x256 .f32 :=
  Host.dotGeneral dot_S16x256_S256x256_S16x256_1_0_0_1_n_n none P (transpose S256x256 [1, 0] w transposes_S256x256_S256x256_1_0)

/-- Its sum over the sixteen segments. -/
def refSum (H : FVec Ideal S16x256 .f32) : FVec Ideal S256 .f32 := Host.reduceAdd H (constant S_ .f32 0x00000000#32) reducesTo_S16x256_S256_d0 h_S_

/-- The deviations from the mean, as the variance takes them. -/
def refDev (H : FVec Ideal S16x256 .f32) : FVec Ideal S16x256 .f32 :=
  subf H (broadcastInDim S16x256 ![0, 1] bcast_S1x256_S16x256_0_1 (Host.divf (broadcastInDim S1x256 ![1] bcast_S256_S1x256_1 (refSum H)) (broadcastInDim S1x256 ![] bcast_S_S1x256 (constant S_ .f32 0x41800000#32))))

/-- The variance. -/
def refVar (H : FVec Ideal S16x256 .f32) : FVec Ideal S256 .f32 :=
  select (broadcastInDim S256 ![] bcast_S_S256 (cmpf (F := Ideal) (φ := .f32) .ogt (subf (constant S_ .f32 0x41800000#32) (sitofp .f32 (constantI S_ 32 0#32))) (constant S_ .f32 0x00000000#32)))
    (Host.divf (refSum (mulf (refDev H) (refDev H))) (broadcastInDim S256 ![] bcast_S_S256 (subf (constant S_ .f32 0x41800000#32) (sitofp .f32 (constantI S_ 32 0#32)))))
    (broadcastInDim S256 ![] bcast_S_S256 (id (constant S_ .f32 0x7FC00000#32)))

/-- The normalised array, clipped below at zero. -/
def refNorm (H : FVec Ideal S16x256 .f32) (ga be : FVec Ideal S256 .f32) : FVec Ideal S16x256 .f32 :=
  maximumf (addf (mulf (Host.divf (subf H (broadcastInDim S16x256 ![0, 1] bcast_S1x256_S16x256_0_1 (broadcastInDim S1x256 ![1] bcast_S256_S1x256_1 (Host.divf (refSum H) (broadcastInDim S256 ![] bcast_S_S256 (constant S_ .f32 0x41800000#32))))))
    (broadcastInDim S16x256 ![0, 1] bcast_S1x256_S16x256_0_1 (broadcastInDim S1x256 ![1] bcast_S256_S1x256_1 (Host.sqrt (addf (refVar H) (broadcastInDim S256 ![] bcast_S_S256 (constant S_ .f32 0x3727C5AC#32)))))))
    (broadcastInDim S16x256 ![0, 1] bcast_S1x256_S16x256_0_1 (broadcastInDim S1x256 ![1] bcast_S256_S1x256_1 ga))) (broadcastInDim S16x256 ![0, 1] bcast_S1x256_S16x256_0_1 (broadcastInDim S1x256 ![1] bcast_S256_S1x256_1 be))) (broadcastInDim S16x256 ![] bcast_S_S16x256 (constant S_ .f32 0x00000000#32))

/-- The reference's projection. -/
def refHead (P : FVec Ideal S16x256 .f32) (w : FVec Ideal S256x256 .f32) (ga be : FVec Ideal S256 .f32) (w2 : FVec Ideal S128x256 .f32) (b2 : FVec Ideal S128 .f32) :
    FVec Ideal S16x128 .f32 :=
  addf (Host.dotGeneral dot_S16x256_S256x128_S16x128_1_0_0_1_n_n none (refNorm (refHidden P w) ga be) (transpose S256x128 [1, 0] w2 transposes_S128x256_S256x128_1_0)) (broadcastInDim S16x128 ![0, 1] bcast_S1x128_S16x128_0_1 (broadcastInDim S1x128 ![1] bcast_S128_S1x128_1 b2))

/-- Equal arguments give equal projections. -/
theorem refHead_congr {x x' : FVec Ideal S32768x256 .f32} {i i' : IVec S32768 32} {w w' : FVec Ideal S256x256 .f32} {ga ga' be be' : FVec Ideal S256 .f32}
    {w2 w2' : FVec Ideal S128x256 .f32} {b2 b2' : FVec Ideal S128 .f32} (h0 : x = x') (h1 : i = i') (h2 : w = w') (h3 : ga = ga') (h4 : be = be') (h5 : w2 = w2')
    (h6 : b2 = b2') : refHead (refPooled x i) w ga be w2 b2 = refHead (refPooled x' i') w' ga' be' w2' b2' := by
  subst h0 h1 h2 h3 h4 h5 h6; rfl

/-- The reference's second result is the projection of its first. -/
theorem res_eq (m : (ℓ : Loc nD τ sig) → Buf (Elt Ideal) ℓ) (c : Dev nD) : res_main_v37 m c
    = refHead (refPooled (m ((c.tc : Thread nD τ).loc main_arg0)) (m ((c.tc : Thread nD τ).loc main_arg1))) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
  unfold res_main_v37 refHead refNorm refVar refDev refSum refHidden refPooled masked
  rfl

/-! ## Entries -/

/-- The pattern of sixteen. -/
theorem ofBits_sixteen : Ideal.ofBits .f32 0x41800000#32 = ((16 : ℝ) : EReal) := by
  simp [Ideal.ofBits, Ideal.ieee]
  rw [← EReal.coe_mul]
  congr 1
  norm_num

/-- The word zero, converted. -/
theorem sitofp_zero : (FloatOps.sitofp (F := Ideal) .f32 0#32 : EReal) = 0 := by
  show (((0#32 : BitVec 32).toInt : ℝ) : EReal) = 0
  simp

/-- The first product, entry by entry. -/
theorem refHidden_apply (P : FVec Ideal S16x256 .f32) (w : FVec Ideal S256x256 .f32) (s : Fin 16) (c : Fin 256) :
    refHidden P w (ix2 s c) = ∑ k : Fin 256, P (ix2 s k) * w (ix2 c k) := by
  pointwise [refHidden]

/-- The sum of a column. -/
theorem refSum_apply (H : FVec Ideal S16x256 .f32) (c : Fin 256) : refSum H (ix1 c) = ∑ k : Fin 16, H (ix2 k c) := by
  pointwise [refSum]

/-- A deviation: the entry less the column's mean. -/
theorem refDev_apply (H : FVec Ideal S16x256 .f32) (s : Fin 16) (c : Fin 256) :
    refDev H (ix2 s c) = H (ix2 s c) - Ideal.div (refSum H (ix1 c)) (Ideal.ofBits .f32 0x41800000#32) := by
  pointwise [refDev]

/-- The variance: the guard on the count `16 - 0` holds, so it is the mean square deviation. -/
theorem refVar_apply (H : FVec Ideal S16x256 .f32) (c : Fin 256) :
    refVar H (ix1 c) = Ideal.div (∑ k : Fin 16, refDev H (ix2 k c) * refDev H (ix2 k c)) (Ideal.ofBits .f32 0x41800000#32) := by
  pointwise [refVar]
  rw [sitofp_zero, sub_zero, if_pos (by rw [ofBits_sixteen]; exact EReal.coe_pos.2 (by norm_num)), refSum_apply]
  rfl

/-- A normalised entry. -/
theorem refNorm_apply (H : FVec Ideal S16x256 .f32) (ga be : FVec Ideal S256 .f32) (s : Fin 16) (c : Fin 256) :
    refNorm H ga be (ix2 s c)
      = max (Ideal.div (H (ix2 s c) - Ideal.div (refSum H (ix1 c)) (Ideal.ofBits .f32 0x41800000#32))
          (Ideal.sqrt (refVar H (ix1 c) + Ideal.ofBits .f32 0x3727C5AC#32)) * ga (ix1 c) + be (ix1 c)) 0 := by
  pointwise [refNorm]

/-- A projected entry. -/
theorem refHead_apply (P : FVec Ideal S16x256 .f32) (w : FVec Ideal S256x256 .f32) (ga be : FVec Ideal S256 .f32) (w2 : FVec Ideal S128x256 .f32) (b2 : FVec Ideal S128 .f32)
    (s : Fin 16) (o : Fin 128) :
    refHead P w ga be w2 b2 (ix2 s o) = (∑ k : Fin 256, refNorm (refHidden P w) ga be (ix2 s k) * w2 (ix2 o k)) + b2 (ix1 o) := by
  pointwise [refHead]

end Cert.ReferenceIdeal.Value

namespace Cert.KernelIdeal.Walk

open Cert.KernelIdeal.Gen Idealize.ShloMosaic Cert.ReferenceIdeal.Value

/-- The kernel's projection of an array of partial maxima is the reference's of the pooled array. -/
theorem head_eq (X : Vec Ideal S32x16x256 .f32) (w : Vec Ideal S256x256 .f32) (ga be : FVec Ideal S256 .f32) (ga' be' : Vec Ideal S1x256 .f32)
    (w2 : Vec Ideal S128x256 .f32) (b2 : FVec Ideal S128 .f32) (b2' : Vec Ideal S1x128 .f32)
    (hga : ∀ c, ga' (ix2 0 c) = ga (ix1 c)) (hbe : ∀ c, be' (ix2 0 c) = be (ix1 c)) (hb2 : ∀ o, b2' (ix2 0 o) = b2 (ix1 o)) :
    head (F := Ideal) X w ga' be' w2 b2' = refHead (pooled (F := Ideal) X) w ga be w2 b2 := by
  funext i
  obtain ⟨s, o, rfl⟩ : ∃ (s : Fin 16) (o : Fin 128), i = ix2 s o := ⟨i 0, i 1, eq_ix2 i⟩
  rw [refHead_apply]
  simp only [refNorm_apply, refVar_apply, refDev_apply, refSum_apply, refHidden_apply, ← hga, ← hbe, ← hb2]
  unfold head pooled
  generalize hP : k1_pay2 (F := Ideal) X = P
  pointwise [k1_pay1, k1_pay3, hP]

end Cert.KernelIdeal.Walk

end
-- ==== Proof.Ideal.Values.lean ====
/-
  The kernel's two results on the extended reals are the reference's two functions of the arguments.
-/
module

public import proofs.«01_k».proof.Proof.Ideal.Frame
public import proofs.«01_k».proof.Proof.Ideal.Head

@[expose] public section

noncomputable section

namespace Cert.KernelIdeal.Walk

open Idealize.ShloMosaic Cert.ReferenceIdeal.Value
open Idealize.ShloMosaic.TcCoe

variable (m : (ℓ : Loc nD τ sig) → Buf (Elt Ideal) ℓ) (d : Dev nD)

/-- The arguments, by their shapes. -/
abbrev a0 : FVec Ideal S32768x256 .f32 := m ((SparseCore.T d).loc main_arg0)
abbrev a1 : IVec S32768 32 := m ((SparseCore.T d).loc main_arg1)
abbrev a2 : FVec Ideal S256x256 .f32 := m ((SparseCore.T d).loc main_arg2)
abbrev a3 : FVec Ideal S256 .f32 := m ((SparseCore.T d).loc main_arg3)
abbrev a4 : FVec Ideal S256 .f32 := m ((SparseCore.T d).loc main_arg4)
abbrev a5 : FVec Ideal S128x256 .f32 := m ((SparseCore.T d).loc main_arg5)
abbrev a6 : FVec Ideal S128 .f32 := m ((SparseCore.T d).loc main_arg6)

/-! ## The operands of the last call -/

/-- Before the last reshapes, a buffer neither earlier line writes is as at the launch. -/
theorem V2_kept (b : Ref sig .tc) (h0 : b ≠ main_v0) (h1 : b ≠ main_v1) : V2 m d (Proc.devRef .tc b) = m ((SparseCore.T d).loc b) :=
  (Function.update_of_ne (StableHlo.devRef_ne_of_ne h1) _ _).trans (StableHlo.reshape_result_ne' (h := h0) ..)

/-- Each operand of the last call, from the arguments. -/
theorem V6_arg2 : V6 m d (Proc.devRef .tc main_arg2) = a2 m d := by
  unfold V6
  exact (StableHlo.reshape_result_ne' (h := by decide) ..).trans <| (StableHlo.reshape_result_ne' (h := by decide) ..).trans <|
    (StableHlo.reshape_result_ne' (h := by decide) ..).trans <| (StableHlo.reshape_result_ne' (h := by decide) ..).trans <| V2_kept m d _ (by decide) (by decide)

theorem V6_arg5 : V6 m d (Proc.devRef .tc main_arg5) = a5 m d := by
  unfold V6
  exact (StableHlo.reshape_result_ne' (h := by decide) ..).trans <| (StableHlo.reshape_result_ne' (h := by decide) ..).trans <|
    (StableHlo.reshape_result_ne' (h := by decide) ..).trans <| (StableHlo.reshape_result_ne' (h := by decide) ..).trans <| V2_kept m d _ (by decide) (by decide)

theorem V6_v5 : V6 m d (Proc.devRef .tc main_v5) = shapeCast S1x128 (a6 m d) Facts₀.shapeCasts_S128_S1x128 := by
  unfold V6
  refine (StableHlo.reshape_result' (τ := τ) (Val := Elt Ideal) (x := main_arg6) (y := main_v5) ..).trans ?_
  exact congrArg (fun v : FVec Ideal S128 .f32 => shapeCast S1x128 v Facts₀.shapeCasts_S128_S1x128) <|
    (StableHlo.reshape_result_ne' (h := by decide) ..).trans <| (StableHlo.reshape_result_ne' (h := by decide) ..).trans <|
    (StableHlo.reshape_result_ne' (h := by decide) ..).trans <| V2_kept m d _ (by decide) (by decide)

theorem V6_v4 : V6 m d (Proc.devRef .tc main_v4) = shapeCast S1x256 (a4 m d) Facts₀.shapeCasts_S256_S1x256 := by
  unfold V6
  refine (StableHlo.reshape_result_ne' (h := by decide) ..).trans ?_
  refine (StableHlo.reshape_result' (τ := τ) (Val := Elt Ideal) (x := main_arg4) (y := main_v4) ..).trans ?_
  exact congrArg (fun v : FVec Ideal S256 .f32 => shapeCast S1x256 v Facts₀.shapeCasts_S256_S1x256) <|
    (StableHlo.reshape_result_ne' (h := by decide) ..).trans <| (StableHlo.reshape_result_ne' (h := by decide) ..).trans <| V2_kept m d _ (by decide) (by decide)

theorem V6_v3 : V6 m d (Proc.devRef .tc main_v3) = shapeCast S1x256 (a3 m d) Facts₀.shapeCasts_S256_S1x256 := by
  unfold V6
  refine (StableHlo.reshape_result_ne' (h := by decide) ..).trans ?_
  refine (StableHlo.reshape_result_ne' (h := by decide) ..).trans ?_
  refine (StableHlo.reshape_result' (τ := τ) (Val := Elt Ideal) (x := main_arg3) (y := main_v3) ..).trans ?_
  exact congrArg (fun v : FVec Ideal S256 .f32 => shapeCast S1x256 v Facts₀.shapeCasts_S256_S1x256) <|
    (StableHlo.reshape_result_ne' (h := by decide) ..).trans <| V2_kept m d _ (by decide) (by decide)

/-- The partial maxima, tile by tile. -/
def partials : Vec Ideal S32x16x256 .f32 := shapeCast S32x16x256 (pBuf (xf m d) (jf m d) : FVec Ideal S32x4096 .f32) Facts₀.shapeCasts_S32x4096_S32x16x256

theorem V6_v2 : V6 m d (Proc.devRef .tc main_v2) = partials m d := by
  unfold V6 partials
  refine (StableHlo.reshape_result_ne' (h := by decide) ..).trans ?_
  refine (StableHlo.reshape_result_ne' (h := by decide) ..).trans ?_
  refine (StableHlo.reshape_result_ne' (h := by decide) ..).trans ?_
  refine (StableHlo.reshape_result' (τ := τ) (Val := Elt Ideal) (x := main_v1) (y := main_v2) ..).trans ?_
  exact congrArg (fun v : FVec Ideal S32x4096 .f32 => shapeCast S32x16x256 v Facts₀.shapeCasts_S32x4096_S32x16x256) (Function.update_self _ _ _)

/-- An entry of the partial maxima is a word of its tile's accumulator after all 64 groups. -/
theorem partials_apply (t : Fin 32) (s : Fin 16) (c : Fin 256) :
    partials m d (ix3 t s c) = accAfter (xf m d) (jf m d) t.val 64 (256 * s.val + c.val) := by
  unfold partials
  pointwise [pBuf]
  congr 1
  omega

/-! ## The results -/

/-- The segment words ascend. -/
theorem jf_mono (h : Ok m) (a b : ℕ) (hab : a ≤ b) (hb : b < 32768) : (jf m d a).toNat ≤ (jf m d b).toNat := by
  have at_ : ∀ n (hn : n < 32768), jf m d n = a1 m d (ix1 ⟨n, hn⟩) := fun n hn => by
    unfold jf
    congr 2
    exact Fin.ext (Nat.mod_eq_of_lt hn)
  induction b, hab using Nat.le_induction with
  | base => exact le_rfl
  | succ n hn ih =>
    refine (ih (by omega)).trans ?_
    rw [at_ n (by omega), at_ (n + 1) hb]
    exact Cert.Ids.step_of_pre (h d) n hb

/-- The kernel's pooled array is the reference's. -/
theorem pooled_eq (h : Ok m) : pooled (F := Ideal) (partials m d) = refPooled (a0 m d) (a1 m d) := by
  funext i
  obtain ⟨s, c, rfl⟩ : ∃ (s : Fin 16) (c : Fin 256), i = ix2 s c := ⟨i 0, i 1, eq_ix2 i⟩
  have hx : ∀ n : Fin 32768, xf m d (256 * n.val + c.val) = a0 m d (ix2 n c) := fun n => by
    have := n.isLt; have := c.isLt
    unfold xf
    congr 2
    · exact Fin.ext (by simp <;> omega)
    · exact Fin.ext (by simp <;> omega)
  have hj : ∀ n : Fin 32768, jf m d n.val = a1 m d (ix1 n) := fun n => by
    unfold jf
    congr 2
    exact Fin.ext (Nat.mod_eq_of_lt n.isLt)
  have key : ∀ b : EReal, pooled (F := Ideal) (partials m d) (ix2 s c) ≤ b ↔ refPooled (a0 m d) (a1 m d) (ix2 s c) ≤ b := by
    intro b
    rw [pooled_le, refPooled_le]
    simp only [partials_apply]
    constructor
    · intro k
      have k' := fun t : Fin 32 => (accAfter_le (xf m d) (jf m d) t.val t.isLt (jf_mono m d h) c.isLt 64 le_rfl).1 (k t)
      refine ⟨(k' 0).1, fun n hn => ?_⟩
      have hlt := n.isLt
      have e : 1024 * (n.val / 1024) + n.val % 1024 = n.val := Nat.div_add_mod _ _
      have r := (k' ⟨n.val / 1024, by omega⟩).2 (n.val % 1024) (by omega)
      simp only [e, hx, hj] at r
      exact r hn
    · rintro ⟨k0, k⟩ t
      refine (accAfter_le (xf m d) (jf m d) t.val t.isLt (jf_mono m d h) c.isLt 64 le_rfl).2 ⟨k0, fun r hr e => ?_⟩
      have ht := t.isLt
      have q := k ⟨1024 * t.val + r, by omega⟩
      rw [← hx, ← hj] at q
      exact q e
  exact le_antisymm ((key _).2 le_rfl) ((key _).1 le_rfl)

/-- The first result. -/
theorem Vend_0 (h : Ok m) : Vend m d main_v6_0 = refPooled (a0 m d) (a1 m d) := by
  unfold Vend
  refine (afterTc_0 _ d).trans ?_
  unfold out0
  exact (congrArg (pooled (F := Ideal)) (V6_v2 m d)).trans (pooled_eq m d h)

/-- The second. -/
theorem Vend_1 (h : Ok m) : Vend m d main_v6_1 = refHead (refPooled (a0 m d) (a1 m d)) (a2 m d) (a3 m d) (a4 m d) (a5 m d) (a6 m d) := by
  unfold Vend
  refine (afterTc_1 _ d).trans ?_
  unfold out1
  dsimp only
  rw [V6_v2, V6_arg2, V6_v3, V6_v4, V6_arg5, V6_v5]
  refine (head_eq (partials m d) (a2 m d) (a3 m d) (a4 m d) _ _ (a5 m d) (a6 m d) _ (fun c => ?_) (fun c => ?_) (fun o => ?_)).trans ?_
  · pointwise
  · pointwise
  · pointwise
  · rw [pooled_eq m d h]

end Cert.KernelIdeal.Walk

end
-- ==== Proof.lean ====
/-
  The certificate: each claim from the runs of the kernel (Proof/Frame.lean, and Proof/Ideal/Frame.lean at exact arithmetic)
  and of the reference; that the two end with equal results is Proof/Ideal/Values.lean.
-/
module

public import proofs.«01_k».proof.Defs
public import proofs.«01_k».proof.Proof.Frame
public import proofs.«01_k».proof.Proof.Ideal.Values
public import proofs.«01_k».proof.Proof.Gen.ReferenceIdeal
public import proofs.«01_k».proof.Proof.Gen.ReferenceIdeal.Run
public import proofs.«01_k».proof.Proof.Gen.Pre_sorted_ids

@[expose] public section

noncomputable section

namespace Cert.Proof

open Idealize.ShloMosaic Idealize.SL.Sem

/-- The kernel's frame, in floating point. -/
theorem frame_p : Cert.quiescent_Kernel := fun m g h =>
  (θ_run (Cert.Kernel.defs (F := Bits)) _ _).mono (fun _ hr => ⟨fun c => (hr.1 c).2.2, hr.2⟩) (Cert.Kernel.Walk.run_ok m g h)

/-- The kernel's frame, in exact arithmetic. -/
theorem frame_pi : Cert.quiescent_KernelIdeal := fun m g h =>
  (θ_run (Cert.KernelIdeal.defs (F := Ideal)) _ _).mono (fun _ hr => ⟨fun c => (hr.1 c).2.2, hr.2⟩) (Cert.KernelIdeal.Walk.run_ok m g h)

/-- The reference's frame. -/
theorem frame_ri : Cert.quiescent_ReferenceIdeal := fun m g _ =>
  (θ_run Cert.ReferenceIdeal.defs _ _).mono (fun r hr => ⟨fun c => (hr c).2.2, sem_eq_zero_of_no_sems (by decide) r.2⟩)
    (Cert.ReferenceIdeal.Value.run (F := Ideal) m g)

/-- The same frame under the precondition of the kernel's claims. -/
theorem frame_ri_pre : Cert.quiescent_ReferenceIdeal_pre_sorted_ids := fun m g _ => frame_ri m g trivial

/-- Both results: from memories that agree on the arguments, the kernel and the reference end with equal arrays. -/
theorem values : Cert.algebraic_KernelIdeal_ReferenceIdeal := fun m g m' g' h ha => by
  refine ⟨fun c => Cert.KernelIdeal.Walk.Vend m c Cert.KernelIdeal.main_v6_0, fun c => Cert.KernelIdeal.Walk.Vend m c Cert.KernelIdeal.main_v6_1,
    (θ_run (Cert.KernelIdeal.defs (F := Ideal)) _ _).mono (fun _ hr => hr.1) (Cert.KernelIdeal.Walk.run_ok m g h),
    (θ_run Cert.ReferenceIdeal.defs _ _).mono (fun r hr c => ?_) (Cert.ReferenceIdeal.Value.run (F := Ideal) m' g')⟩
  obtain ⟨e0, e1, e2, e3, e4, e5, e6⟩ := ha c
  obtain ⟨h0, h1, k⟩ := hr c
  refine ⟨h0.trans ?_, h1.trans ?_, k⟩
  · exact (congrArg₂ Cert.ReferenceIdeal.Value.refPooled e0 e1).trans (Cert.KernelIdeal.Walk.Vend_0 m c h).symm
  · exact (Cert.ReferenceIdeal.Value.res_eq m' c).trans <| (Cert.ReferenceIdeal.Value.refHead_congr e0 e1 e2 e3 e4 e5 e6).trans (Cert.KernelIdeal.Walk.Vend_1 m c h).symm

/-- Everything the certificate claims. -/
theorem claim : Cert.Claim := ⟨Cert.Kernel.Gen.facts, Cert.KernelIdeal.Gen.facts, Cert.ReferenceIdeal.Gen.facts, Cert.Pre_sorted_ids.Gen.facts,
  frame_p, frame_pi, frame_ri, frame_ri_pre, trivial, values⟩

end Cert.Proof

end
